-- ==== Defs.lean ====
def Pre_Kernel [hPre_valid_edges : Cert.Pre_valid_edges.Facts] (m : (ℓ : Loc Cert.Kernel.nD Cert.Kernel.τ Cert.Kernel.sig) → Buf (Elt Bits) ℓ) : Prop :=
  ∀ c : Dev Cert.Kernel.nD,
    (Cert.Pre_valid_edges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_valid_edges : Cert.Pre_valid_edges.Facts] (m : (ℓ : Loc Cert.KernelIdeal.nD Cert.KernelIdeal.τ Cert.KernelIdeal.sig) → Buf (Elt Ideal) ℓ) : Prop :=
  ∀ c : Dev Cert.KernelIdeal.nD,
    (Cert.Pre_valid_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_valid_graph [hPre_valid_graph : Cert.Pre_valid_graph.Facts] (m : (ℓ : Loc Cert.KernelIdeal.nD Cert.KernelIdeal.τ Cert.KernelIdeal.sig) → Buf (Elt Ideal) ℓ) : Prop :=
  ∀ c : Dev Cert.KernelIdeal.nD,
    (Cert.Pre_valid_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_graph [hPre_valid_graph : Cert.Pre_valid_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] [hPre_valid_edges : Cert.Pre_valid_edges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_valid_edges : Cert.Pre_valid_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_valid_graph [hKernelIdeal : Cert.KernelIdeal.Facts] [hPre_valid_graph : Cert.Pre_valid_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_valid_graph [hReferenceIdeal : Cert.ReferenceIdeal.Facts] [hPre_valid_graph : Cert.Pre_valid_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_valid_graph [hKernelIdeal : Cert.KernelIdeal.Facts] [hReferenceIdeal : Cert.ReferenceIdeal.Facts] [hPre_valid_graph : Cert.Pre_valid_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_valid_edges : Cert.Pre_valid_edges.Facts) (hPre_valid_graph : Cert.Pre_valid_graph.Facts),
    quiescent_Kernel (hKernel := hKernel) (hPre_valid_edges := hPre_valid_edges)
    ∧ quiescent_KernelIdeal (hKernelIdeal := hKernelIdeal) (hPre_valid_edges := hPre_valid_edges)
    ∧ quiescent_KernelIdeal_pre_valid_graph (hKernelIdeal := hKernelIdeal) (hPre_valid_graph := hPre_valid_graph)
    ∧ quiescent_ReferenceIdeal (hReferenceIdeal := hReferenceIdeal)
    ∧ quiescent_ReferenceIdeal_pre_valid_graph (hReferenceIdeal := hReferenceIdeal) (hPre_valid_graph := hPre_valid_graph)
    ∧ preserves_Kernel_KernelIdeal
    ∧ algebraic_KernelIdeal_ReferenceIdeal_pre_valid_graph (hKernelIdeal := hKernelIdeal) (hReferenceIdeal := hReferenceIdeal) (hPre_valid_graph := hPre_valid_graph)
-- ==== Pre_valid_edges.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S2x160000 : S_.BroadcastsInDim S2x160000 (![] : Fin 0 → Fin S2x160000.rank)
  reducesTo_S2x160000_S_d0_1 : S2x160000.ReducesTo [0, 1] S_
  h_S_ : 0 < S_.numel

variable [Facts]

def fn {F : FTy → Type} [FloatOps F] (main_arg0 : FVec F S10000x256 .f32) (main_arg1 : IVec S2x160000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256 .f32) (main_arg14 : FVec F S256x128 .f32) (main_arg15 : FVec F S256x128 .f32) (main_arg16 : FVec F S128 .f32) : IVec S_ 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  let main_c_1 : IVec S_ 1 := constantI S_ 1 1#1
  let main_v5 : IVec S_ 1 := (fun x v => Host.reduce IntOp.andi x v reducesTo_S2x160000_S_d0_1 h_S_) main_v4 main_c_1
  main_v5
-- ==== Pre_valid_graph.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S2x160000 : S_.BroadcastsInDim S2x160000 (![] : Fin 0 → Fin S2x160000.rank)
  reducesTo_S2x160000_S_d0_1 : S2x160000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_v5 : IVec S_ 1) (main_v9 : IVec S_ 1) (main_v13 : IVec S_ 1) (main_v17 : IVec S_ 1) (main_v21 : IVec S_ 1) (main_v25 : IVec S_ 1) (main_v29 : IVec S_ 1) (main_v30 : FVec F S256 .f32) (main_v31 : FVec F S256 .f32) : IVec S_ 1 :=
  let main_v32 : IVec S256 1 := cmpf .olt main_v30 main_v31
  let main_c_14 : IVec S_ 1 := constantI S_ 1 1#1
  let main_v33 : IVec S_ 1 := (fun x v => Host.reduce IntOp.andi x v reducesTo_S256_S_d0 h_S_) main_v32 main_c_14
  let main_v34 : IVec S_ 1 := andi main_v9 main_v13
  let main_v35 : IVec S_ 1 := andi main_v34 main_v17
  let main_v36 : IVec S_ 1 := andi main_v35 main_v21
  let main_v37 : IVec S_ 1 := andi main_v36 main_v25
  let main_v38 : IVec S_ 1 := andi main_v37 main_v29
  let main_v39 : IVec S_ 1 := andi main_v38 main_v33
  let main_v40 : IVec S_ 1 := andi main_v5 main_v39
  main_v40

def fn_part1 {F : FTy → Type} [FloatOps F] (main_arg7 : FVec F S256x256 .f32) (main_arg8 : FVec F S256 .f32) (main_arg12 : FVec F S256x256 .f32) (main_arg13 : FVec F S256 .f32) (main_v5 : IVec S_ 1) (main_v9 : IVec S_ 1) (main_v13 : IVec S_ 1) (main_v14 : FVec F S256 .f32) (main_v15 : FVec F S256 .f32) : IVec S_ 1 :=
  let main_v16 : IVec S256 1 := cmpf .olt main_v14 main_v15
  let main_c_6 : IVec S_ 1 := constantI S_ 1 1#1
  let main_v17 : IVec S_ 1 := (fun x v => Host.reduce IntOp.andi x v reducesTo_S256_S_d0 h_S_) main_v16 main_c_6
  let main_v18 : FVec F S256x256 .f32 := Host.absf main_arg7
  let main_cst_7 : FVec F S_ .f32 := constant S_ .f32 0x7F800000#32
  let main_v19 : FVec F S256x256 .f32 := broadcastInDim S256x256 ![] bcast_S_S256x256 main_cst_7
  let main_v20 : IVec S256x256 1 := cmpf .olt main_v18 main_v19
  let main_c_8 : IVec S_ 1 := constantI S_ 1 1#1
  let main_v21 : IVec S_ 1 := (fun x v => Host.reduce IntOp.andi x v reducesTo_S256x256_S_d0_1 h_S_) main_v20 main_c_8
  let main_v22 : FVec F S256 .f32 := Host.absf main_arg8
  let main_cst_9 : FVec F S_ .f32 := constant S_ .f32 0x7F800000#32
  let main_v23 : FVec F S256 .f32 := broadcastInDim S256 ![] bcast_S_S256 main_cst_9
  let main_v24 : IVec S256 1 := cmpf .olt main_v22 main_v23
  let main_c_10 : IVec S_ 1 := constantI S_ 1 1#1
  let main_v25 : IVec S_ 1 := (fun x v => Host.reduce IntOp.andi x v reducesTo_S256_S_d0 h_S_) main_v24 main_c_10
  let main_v26 : FVec F S256x256 .f32 := Host.absf main_arg12
  let main_cst_11 : FVec F S_ .f32 := constant S_ .f32 0x7F800000#32
  let main_v27 : FVec F S256x256 .f32 := broadcastInDim S256x256 ![] bcast_S_S256x256 main_cst_11
  let main_v28 : IVec S256x256 1 := cmpf .olt main_v26 main_v27
  let main_c_12 : IVec S_ 1 := constantI S_ 1 1#1
  let main_v29 : IVec S_ 1 := (fun x v => Host.reduce IntOp.andi x v reducesTo_S256x256_S_d0_1 h_S_) main_v28 main_c_12
  let main_v30 : FVec F S256 .f32 := Host.absf main_arg13
  let main_cst_13 : FVec F S_ .f32 := constant S_ .f32 0x7F800000#32
  let main_v31 : FVec F S256 .f32 := broadcastInDim S256 ![] bcast_S_S256 main_cst_13
  fn_part2 (F := F) main_v5 main_v9 main_v13 main_v17 main_v21 main_v25 main_v29 main_v30 main_v31

def fn {F : FTy → Type} [FloatOps F] (main_arg0 : FVec F S10000x256 .f32) (main_arg1 : IVec S2x160000 32) (main_arg2 : FVec F S256x256 .f32) (main_arg3 : FVec F S256 .f32) (main_arg4 : FVec F S256x256 .f32) (main_arg5 : FVec F S256x256 .f32) (main_arg6 : FVec F S256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256 .f32) (main_arg14 : FVec F S256x128 .f32) (main_arg15 : FVec F S256x128 .f32) (main_arg16 : FVec F S128 .f32) : IVec S_ 1 :=
  let main_c : IVec S_ 32 := constantI S_ 32 0#32
  let main_v0 : IVec S2x160000 32 := broadcastInDim S2x160000 ![] bcast_S_S2x160000 main_c
  let main_v1 : IVec S2x160000 1 := cmpi .sge main_arg1 main_v0
  let main_c_0 : IVec S_ 32 := constantI S_ 32 10000#32
  let main_v2 : IVec S2x160000 32 := broadcastInDim S2x160000 ![] bcast_S_S2x160000 main_c_0
  let main_v3 : IVec S2x160000 1 := cmpi .slt main_arg1 main_v2
  let main_v4 : IVec S2x160000 1 := andi main_v1 main_v3
  let main_c_1 : IVec S_ 1 := constantI S_ 1 1#1
  let main_v5 : IVec S_ 1 := (fun x v => Host.reduce IntOp.andi x v reducesTo_S2x160000_S_d0_1 h_S_) main_v4 main_c_1
  let main_v6 : FVec F S10000x256 .f32 := Host.absf main_arg0
  let main_cst : FVec F S_ .f32 := constant S_ .f32 0x7F800000#32
  let main_v7 : FVec F S10000x256 .f32 := broadcastInDim S10000x256 ![] bcast_S_S10000x256 main_cst
  let main_v8 : IVec S10000x256 1 := cmpf .olt main_v6 main_v7
  let main_c_2 : IVec S_ 1 := constantI S_ 1 1#1
  let main_v9 : IVec S_ 1 := (fun x v => Host.reduce IntOp.andi x v reducesTo_S10000x256_S_d0_1 h_S_) main_v8 main_c_2
  let main_v10 : FVec F S256x256 .f32 := Host.absf main_arg2
  let main_cst_3 : FVec F S_ .f32 := constant S_ .f32 0x7F800000#32
  let main_v11 : FVec F S256x256 .f32 := broadcastInDim S256x256 ![] bcast_S_S256x256 main_cst_3
  let main_v12 : IVec S256x256 1 := cmpf .olt main_v10 main_v11
  let main_c_4 : IVec S_ 1 := constantI S_ 1 1#1
  let main_v13 : IVec S_ 1 := (fun x v => Host.reduce IntOp.andi x v reducesTo_S256x256_S_d0_1 h_S_) main_v12 main_c_4
  let main_v14 : FVec F S256 .f32 := Host.absf main_arg3
  let main_cst_5 : FVec F S_ .f32 := constant S_ .f32 0x7F800000#32
  let main_v15 : FVec F S256 .f32 := broadcastInDim S256 ![] bcast_S_S256 main_cst_5
  fn_part1 (F := F) main_arg7 main_arg8 main_arg12 main_arg13 main_v5 main_v9 main_v13 main_v14 main_v15
-- ==== Kernel.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x256 : Shape := ⟨2, ![1, 256]⟩
abbrev S2x1280 : Shape := ⟨2, ![2, 1280]⟩
abbrev S1x1 : Shape := ⟨2, ![1, 1]⟩
abbrev S10000x128 : Shape := ⟨2, ![10000, 128]⟩
abbrev S1x128 : Shape := ⟨2, ![1, 128]⟩

abbrev nBuf : Space → Nat
  | .hbm => 29
  | .vmem => 48
  | .smem => 8
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S256x128, .f32⟩
  | .hbm, ⟨16, _⟩ => ⟨S128, .f32⟩
  | .hbm, ⟨17, _⟩ => ⟨S10000x256, .f32⟩
  | .hbm, ⟨18, _⟩ => ⟨S10000x256, .f32⟩
  | .hbm, ⟨19, _⟩ => ⟨S10000x256, .f32⟩
  | .hbm, ⟨20, _⟩ => ⟨S10000x256, .f32⟩
  | .hbm, ⟨21, _⟩ => ⟨S10000x256, .f32⟩
  | .hbm, ⟨22, _⟩ => ⟨S10000x256, .f32⟩
  | .hbm, ⟨23, _⟩ => ⟨S10000x256, .f32⟩
  | .hbm, ⟨24, _⟩ => ⟨S10000x256, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S10000x128, .f32⟩
  | .local _ .vmem, ⟨0, _⟩ => ⟨S10000x256, .f32⟩
  | .local _ .vmem, ⟨1, _⟩ => ⟨S256x256, .f32⟩
  | .local _ .vmem, ⟨2, _⟩ => ⟨S256, .f32⟩
  | .local _ .vmem, ⟨3, _⟩ => ⟨S10000x256, .f32⟩
  | .local _ .vmem, ⟨4, _⟩ => ⟨S10000x256, .f32⟩
  | .local _ .vmem, ⟨5, _⟩ => ⟨S10000x256, .f32⟩
  | .local _ .vmem, ⟨6, _⟩ => ⟨S10000x256, .f32⟩
  | .local _ .vmem, ⟨7, _⟩ => ⟨S10000x256, .f32⟩
  | .local _ .vmem, ⟨8, _⟩ => ⟨S256x256, .f32⟩
  | .local _ .vmem, ⟨9, _⟩ => ⟨S256x256, .f32⟩
  | .local _ .vmem, ⟨10, _⟩ => ⟨S256, .f32⟩
  | .local _ .vmem, ⟨11, _⟩ => ⟨S10000x256, .f32⟩
  | .local _ .vmem, ⟨12, _⟩ => ⟨S10000x256, .f32⟩
  | .local _ .vmem, ⟨13, _⟩ => ⟨S256x256, .f32⟩
  | .local _ .vmem, ⟨14, _⟩ => ⟨S256, .f32⟩
  | .local _ .vmem, ⟨15, _⟩ => ⟨S10000x256, .f32⟩
  | .local _ .vmem, ⟨16, _⟩ => ⟨S10000x256, .f32⟩
  | .local _ .vmem, ⟨17, _⟩ => ⟨S10000x256, .f32⟩
  | .local _ .vmem, ⟨18, _⟩ => ⟨S10000x256, .f32⟩
  | .local _ .vmem, ⟨19, _⟩ => ⟨S10000x256, .f32⟩
  | .local _ .vmem, ⟨20, _⟩ => ⟨S256x256, .f32⟩
  | .local _ .vmem, ⟨21, _⟩ => ⟨S256x256, .f32⟩
  | .local _ .vmem, ⟨22, _⟩ => ⟨S256, .f32⟩
  | .local _ .vmem, ⟨23, _⟩ => ⟨S10000x256, .f32⟩
  | .local _ .vmem, ⟨24, _⟩ => ⟨S10000x256, .f32⟩
  | .local _ .vmem, ⟨25, _⟩ => ⟨S256x256, .f32⟩
  | .local _ .vmem, ⟨26, _⟩ => ⟨S256, .f32⟩
  | .local _ .vmem, ⟨27, _⟩ => ⟨S10000x256, .f32⟩
  | .local _ .vmem, ⟨28, _⟩ => ⟨S10000x256, .f32⟩
  | .local _ .vmem, ⟨29, _⟩ => ⟨S10000x256, .f32⟩
  | .local _ .vmem, ⟨30, _⟩ => ⟨S10000x256, .f32⟩
  | .local _ .vmem, ⟨31, _⟩ => ⟨S10000x256, .f32⟩
  | .local _ .vmem, ⟨32, _⟩ => ⟨S256x256, .f32⟩
  | .local _ .vmem, ⟨33, _⟩ => ⟨S256x256, .f32⟩
  | .local _ .vmem, ⟨34, _⟩ => ⟨S256, .f32⟩
  | .local _ .vmem, ⟨35, _⟩ => ⟨S10000x256, .f32⟩
  | .local _ .vmem, ⟨36, _⟩ => ⟨S10000x256, .f32⟩
  | .local _ .vmem, ⟨37, _⟩ => ⟨S256x256, .f32⟩
  | .local _ .vmem, ⟨38, _⟩ => ⟨S256, .f32⟩
  | .local _ .vmem, ⟨39, _⟩ => ⟨S10000x256, .f32⟩
  | .local _ .vmem, ⟨40, _⟩ => ⟨S10000x256, .f32⟩
  | .local _ .vmem, ⟨41, _⟩ => ⟨S10000x256, .f32⟩
  | .local _ .vmem, ⟨42, _⟩ => ⟨S10000x256, .f32⟩
  | .local _ .vmem, ⟨43, _⟩ => ⟨S10000x256, .f32⟩
  | .local _ .vmem, ⟨44, _⟩ => ⟨S256x128, .f32⟩
  | .local _ .vmem, ⟨45, _⟩ => ⟨S256x128, .f32⟩
  | .local _ .vmem, ⟨46, _⟩ => ⟨S128, .f32⟩
  | .local _ .vmem, ⟨47, _⟩ => ⟨S10000x128, .f32⟩
  | .local _ .smem, ⟨0, _⟩ => ⟨S2x1280, .i32⟩
  | .local _ .smem, ⟨1, _⟩ => ⟨S2x1280, .i32⟩
  | .local _ .smem, ⟨2, _⟩ => ⟨S2x1280, .i32⟩
  | .local _ .smem, ⟨3, _⟩ => ⟨S2x1280, .i32⟩
  | .local _ .smem, ⟨4, _⟩ => ⟨S2x1280, .i32⟩
  | .local _ .smem, ⟨5, _⟩ => ⟨S2x1280, .i32⟩
  | .local _ .smem, ⟨6, _⟩ => ⟨S2x1280, .i32⟩
  | .local _ .smem, ⟨7, _⟩ => ⟨S2x1280, .i32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc3_stg0_0 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg3_0 : Ref sig .tc := ⟨.vmem, 15, rfl⟩
abbrev cc4_stg1_0 : Ref sig .tc := ⟨.vmem, 16, rfl⟩
abbrev cc4_stg2_0 : Ref sig .tc := ⟨.vmem, 17, rfl⟩
abbrev cc5_stg0_0 : Ref sig .tc := ⟨.vmem, 18, rfl⟩
abbrev cc5_stg1_0 : Ref sig .tc := ⟨.vmem, 19, rfl⟩
abbrev cc5_stg2_0 : Ref sig .tc := ⟨.vmem, 20, rfl⟩
abbrev cc5_stg3_0 : Ref sig .tc := ⟨.vmem, 21, rfl⟩
abbrev cc5_stg4_0 : Ref sig .tc := ⟨.vmem, 22, rfl⟩
abbrev cc5_stg5_0 : Ref sig .tc := ⟨.vmem, 23, rfl⟩
abbrev cc6_stg0_0 : Ref sig .tc := ⟨.vmem, 24, rfl⟩
abbrev cc6_stg1_0 : Ref sig .tc := ⟨.vmem, 25, rfl⟩
abbrev cc6_stg2_0 : Ref sig .tc := ⟨.vmem, 26, rfl⟩
abbrev cc6_stg3_0 : Ref sig .tc := ⟨.vmem, 27, rfl⟩
abbrev cc7_stg1_0 : Ref sig .tc := ⟨.vmem, 28, rfl⟩
abbrev cc7_stg2_0 : Ref sig .tc := ⟨.vmem, 29, rfl⟩
abbrev cc8_stg0_0 : Ref sig .tc := ⟨.vmem, 30, rfl⟩
abbrev cc8_stg1_0 : Ref sig .tc := ⟨.vmem, 31, rfl⟩
abbrev cc8_stg2_0 : Ref sig .tc := ⟨.vmem, 32, rfl⟩
abbrev cc8_stg3_0 : Ref sig .tc := ⟨.vmem, 33, rfl⟩
abbrev cc8_stg4_0 : Ref sig .tc := ⟨.vmem, 34, rfl⟩
abbrev cc8_stg5_0 : Ref sig .tc := ⟨.vmem, 35, rfl⟩
abbrev cc9_stg0_0 : Ref sig .tc := ⟨.vmem, 36, rfl⟩
abbrev cc9_stg1_0 : Ref sig .tc := ⟨.vmem, 37, rfl⟩
abbrev cc9_stg2_0 : Ref sig .tc := ⟨.vmem, 38, rfl⟩
abbrev cc9_stg3_0 : Ref sig .tc := ⟨.vmem, 39, rfl⟩
abbrev cc10_stg1_0 : Ref sig .tc := ⟨.vmem, 40, rfl⟩
abbrev cc10_stg2_0 : Ref sig .tc := ⟨.vmem, 41, rfl⟩
abbrev cc11_stg0_0 : Ref sig .tc := ⟨.vmem, 42, rfl⟩
abbrev cc11_stg1_0 : Ref sig .tc := ⟨.vmem, 43, rfl⟩
abbrev cc11_stg2_0 : Ref sig .tc := ⟨.vmem, 44, rfl⟩
abbrev cc11_stg3_0 : Ref sig .tc := ⟨.vmem, 45, rfl⟩
abbrev cc11_stg4_0 : Ref sig .tc := ⟨.vmem, 46, rfl⟩
abbrev cc11_stg5_0 : Ref sig .tc := ⟨.vmem, 47, rfl⟩
abbrev cc1_stg0_0 : Ref sig .tc := ⟨.smem, 0, rfl⟩
abbrev cc1_stg0_1 : Ref sig .tc := ⟨.smem, 1, rfl⟩
abbrev cc4_stg0_0 : Ref sig .tc := ⟨.smem, 2, rfl⟩
abbrev cc4_stg0_1 : Ref sig .tc := ⟨.smem, 3, rfl⟩
abbrev cc7_stg0_0 : Ref sig .tc := ⟨.smem, 4, rfl⟩
abbrev cc7_stg0_1 : Ref sig .tc := ⟨.smem, 5, rfl⟩
abbrev cc10_stg0_0 : Ref sig .tc := ⟨.smem, 6, rfl⟩
abbrev cc10_stg0_1 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev cc2_sem5_0 : DmaSem sig := 13
abbrev cc3_sem0_0 : DmaSem sig := 14
abbrev cc3_sem1_0 : DmaSem sig := 15
abbrev cc3_sem2_0 : DmaSem sig := 16
abbrev cc3_sem3_0 : DmaSem sig := 17
abbrev cc4_sem0_0 : DmaSem sig := 18
abbrev cc4_sem0_1 : DmaSem sig := 19
abbrev cc4_sem1_0 : DmaSem sig := 20
abbrev cc4_sem2_0 : DmaSem sig := 21
abbrev cc5_sem0_0 : DmaSem sig := 22
abbrev cc5_sem1_0 : DmaSem sig := 23
abbrev cc5_sem2_0 : DmaSem sig := 24
abbrev cc5_sem3_0 : DmaSem sig := 25
abbrev cc5_sem4_0 : DmaSem sig := 26
abbrev cc5_sem5_0 : DmaSem sig := 27
abbrev cc6_sem0_0 : DmaSem sig := 28
abbrev cc6_sem1_0 : DmaSem sig := 29
abbrev cc6_sem2_0 : DmaSem sig := 30
abbrev cc6_sem3_0 : DmaSem sig := 31
abbrev cc7_sem0_0 : DmaSem sig := 32
abbrev cc7_sem0_1 : DmaSem sig := 33
abbrev cc7_sem1_0 : DmaSem sig := 34
abbrev cc7_sem2_0 : DmaSem sig := 35
abbrev cc8_sem0_0 : DmaSem sig := 36
abbrev cc8_sem1_0 : DmaSem sig := 37
abbrev cc8_sem2_0 : DmaSem sig := 38
abbrev cc8_sem3_0 : DmaSem sig := 39
abbrev cc8_sem4_0 : DmaSem sig := 40
abbrev cc8_sem5_0 : DmaSem sig := 41
abbrev cc9_sem0_0 : DmaSem sig := 42
abbrev cc9_sem1_0 : DmaSem sig := 43
abbrev cc9_sem2_0 : DmaSem sig := 44
abbrev cc9_sem3_0 : DmaSem sig := 45
abbrev cc10_sem0_0 : DmaSem sig := 46
abbrev cc10_sem0_1 : DmaSem sig := 47
abbrev cc10_sem1_0 : DmaSem sig := 48
abbrev cc10_sem2_0 : DmaSem sig := 49
abbrev cc11_sem0_0 : DmaSem sig := 50
abbrev cc11_sem1_0 : DmaSem sig := 51
abbrev cc11_sem2_0 : DmaSem sig := 52
abbrev cc11_sem3_0 : DmaSem sig := 53
abbrev cc11_sem4_0 : DmaSem sig := 54
abbrev cc11_sem5_0 : DmaSem sig := 55

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![125], ![false]⟩

@[reducible] def k1_t1_loop : Scf.Loop 32 :=
  let c0_i32_1 : BitVec 32 := 0#32
  let c1280_i32 : BitVec 32 := 1280#32
  let v3 : BitVec 32 := Scalar.addi c0_i32_1 c1280_i32
  let c1_i32 : BitVec 32 := 1#32
  ⟨c0_i32_1, v3, c1_i32⟩
def k1_off1 (k1_t1 : Fin k1_t1_loop.trips) : Fin 2 → Nat :=
  let c0 : Index := 0#32
  let c0_i32_1 : BitVec 32 := 0#32
  let c1_i32 : BitVec 32 := 1#32
  let arg4 : BitVec 32 := Scf.iv c0_i32_1 c1_i32 k1_t1
  let v4 : Index := Scalar.indexCast arg4
  ![0, v4.toNat]
def k1_off2 (k1_t1 : Fin k1_t1_loop.trips) : Fin 2 → Nat :=
  let c1 : Index := 1#32
  let c0_i32_1 : BitVec 32 := 0#32
  let c1_i32 : BitVec 32 := 1#32
  let arg4 : BitVec 32 := Scf.iv c0_i32_1 c1_i32 k1_t1
  let v6 : Index := Scalar.indexCast arg4
  ![1, v6.toNat]
def k1_off3 (v5 : BitVec 32) : Fin 2 → Nat :=
  let v8 : Index := Scalar.indexCast v5
  let c0_3 : Index := 0#32
  ![v8.toNat, 0]

def k1_chk1 (v5 : BitVec 32) : Prop :=
  (∀ a, (k1_off3 v5) a + S1x256.size a ≤ S10000x256.size a)
theorem k1_off3_inb : ∀ (v5 : BitVec 32) (k1_hw1 : k1_chk1 v5), ∀ a, (k1_off3 v5) a + S1x256.size a ≤ S10000x256.size a := fun v5 k1_hw1 => k1_hw1

def k1_off4 (v7 : BitVec 32) : Fin 2 → Nat :=
  let v11 : Index := Scalar.indexCast v7
  let c0_4 : Index := 0#32
  ![v11.toNat, 0]

def k1_chk2 (v7 : BitVec 32) : Prop :=
  (∀ a, (k1_off4 v7) a + S1x256.size a ≤ S10000x256.size a)
theorem k1_off4_inb : ∀ (v7 : BitVec 32) (k1_hw2 : k1_chk2 v7), ∀ a, (k1_off4 v7) a + S1x256.size a ≤ S10000x256.size a := fun v7 k1_hw2 => k1_hw2

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .smem S2x1280 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S10000x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S10000x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev grid3 : Pipeline.Grid := .none

abbrev stage3_0 : Fin 1 → Memref sig .tc .vmem S10000x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S10000x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := ⟨1, ![125], ![false]⟩

@[reducible] def k4_t1_loop : Scf.Loop 32 :=
  let c0_i32_1 : BitVec 32 := 0#32
  let c1280_i32 : BitVec 32 := 1280#32
  let v3 : BitVec 32 := Scalar.addi c0_i32_1 c1280_i32
  let c1_i32 : BitVec 32 := 1#32
  ⟨c0_i32_1, v3, c1_i32⟩
def k4_off1 (k4_t1 : Fin k4_t1_loop.trips) : Fin 2 → Nat :=
  let c0 : Index := 0#32
  let c0_i32_1 : BitVec 32 := 0#32
  let c1_i32 : BitVec 32 := 1#32
  let arg4 : BitVec 32 := Scf.iv c0_i32_1 c1_i32 k4_t1
  let v4 : Index := Scalar.indexCast arg4
  ![0, v4.toNat]
def k4_off2 (k4_t1 : Fin k4_t1_loop.trips) : Fin 2 → Nat :=
  let c1 : Index := 1#32
  let c0_i32_1 : BitVec 32 := 0#32
  let c1_i32 : BitVec 32 := 1#32
  let arg4 : BitVec 32 := Scf.iv c0_i32_1 c1_i32 k4_t1
  let v6 : Index := Scalar.indexCast arg4
  ![1, v6.toNat]
def k4_off3 (v5 : BitVec 32) : Fin 2 → Nat :=
  let v8 : Index := Scalar.indexCast v5
  let c0_3 : Index := 0#32
  ![v8.toNat, 0]

def k4_chk1 (v5 : BitVec 32) : Prop :=
  (∀ a, (k4_off3 v5) a + S1x256.size a ≤ S10000x256.size a)
theorem k4_off3_inb : ∀ (v5 : BitVec 32) (k4_hw1 : k4_chk1 v5), ∀ a, (k4_off3 v5) a + S1x256.size a ≤ S10000x256.size a := fun v5 k4_hw1 => k4_hw1

def k4_off4 (v7 : BitVec 32) : Fin 2 → Nat :=
  let v11 : Index := Scalar.indexCast v7
  let c0_4 : Index := 0#32
  ![v11.toNat, 0]

def k4_chk2 (v7 : BitVec 32) : Prop :=
  (∀ a, (k4_off4 v7) a + S1x256.size a ≤ S10000x256.size a)
theorem k4_off4_inb : ∀ (v7 : BitVec 32) (k4_hw2 : k4_chk2 v7), ∀ a, (k4_off4 v7) a + S1x256.size a ≤ S10000x256.size a := fun v7 k4_hw2 => k4_hw2

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .smem S2x1280 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S10000x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := .none

abbrev stage5_0 : Fin 1 → Memref sig .tc .vmem S10000x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S10000x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S10000x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev grid6 : Pipeline.Grid := .none

abbrev stage6_0 : Fin 1 → Memref sig .tc .vmem S10000x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S10000x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev grid7 : Pipeline.Grid := ⟨1, ![125], ![false]⟩

@[reducible] def k7_t1_loop : Scf.Loop 32 :=
  let c0_i32_1 : BitVec 32 := 0#32
  let c1280_i32 : BitVec 32 := 1280#32
  let v3 : BitVec 32 := Scalar.addi c0_i32_1 c1280_i32
  let c1_i32 : BitVec 32 := 1#32
  ⟨c0_i32_1, v3, c1_i32⟩
def k7_off1 (k7_t1 : Fin k7_t1_loop.trips) : Fin 2 → Nat :=
  let c0 : Index := 0#32
  let c0_i32_1 : BitVec 32 := 0#32
  let c1_i32 : BitVec 32 := 1#32
  let arg4 : BitVec 32 := Scf.iv c0_i32_1 c1_i32 k7_t1
  let v4 : Index := Scalar.indexCast arg4
  ![0, v4.toNat]
def k7_off2 (k7_t1 : Fin k7_t1_loop.trips) : Fin 2 → Nat :=
  let c1 : Index := 1#32
  let c0_i32_1 : BitVec 32 := 0#32
  let c1_i32 : BitVec 32 := 1#32
  let arg4 : BitVec 32 := Scf.iv c0_i32_1 c1_i32 k7_t1
  let v6 : Index := Scalar.indexCast arg4
  ![1, v6.toNat]
def k7_off3 (v5 : BitVec 32) : Fin 2 → Nat :=
  let v8 : Index := Scalar.indexCast v5
  let c0_3 : Index := 0#32
  ![v8.toNat, 0]

def k7_chk1 (v5 : BitVec 32) : Prop :=
  (∀ a, (k7_off3 v5) a + S1x256.size a ≤ S10000x256.size a)
theorem k7_off3_inb : ∀ (v5 : BitVec 32) (k7_hw1 : k7_chk1 v5), ∀ a, (k7_off3 v5) a + S1x256.size a ≤ S10000x256.size a := fun v5 k7_hw1 => k7_hw1

def k7_off4 (v7 : BitVec 32) : Fin 2 → Nat :=
  let v11 : Index := Scalar.indexCast v7
  let c0_4 : Index := 0#32
  ![v11.toNat, 0]

def k7_chk2 (v7 : BitVec 32) : Prop :=
  (∀ a, (k7_off4 v7) a + S1x256.size a ≤ S10000x256.size a)
theorem k7_off4_inb : ∀ (v7 : BitVec 32) (k7_hw2 : k7_chk2 v7), ∀ a, (k7_off4 v7) a + S1x256.size a ≤ S10000x256.size a := fun v7 k7_hw2 => k7_hw2

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .smem S2x1280 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S10000x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := .none

abbrev stage8_0 : Fin 1 → Memref sig .tc .vmem S10000x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S10000x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S256x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev stage8_5 : Fin 1 → Memref sig .tc .vmem S10000x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))

abbrev grid9 : Pipeline.Grid := .none

abbrev stage9_0 : Fin 1 → Memref sig .tc .vmem S10000x256 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S256x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev stage9_3 : Fin 1 → Memref sig .tc .vmem S10000x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))

abbrev grid10 : Pipeline.Grid := ⟨1, ![125], ![false]⟩

@[reducible] def k10_t1_loop : Scf.Loop 32 :=
  let c0_i32_1 : BitVec 32 := 0#32
  let c1280_i32 : BitVec 32 := 1280#32
  let v3 : BitVec 32 := Scalar.addi c0_i32_1 c1280_i32
  let c1_i32 : BitVec 32 := 1#32
  ⟨c0_i32_1, v3, c1_i32⟩
def k10_off1 (k10_t1 : Fin k10_t1_loop.trips) : Fin 2 → Nat :=
  let c0 : Index := 0#32
  let c0_i32_1 : BitVec 32 := 0#32
  let c1_i32 : BitVec 32 := 1#32
  let arg4 : BitVec 32 := Scf.iv c0_i32_1 c1_i32 k10_t1
  let v4 : Index := Scalar.indexCast arg4
  ![0, v4.toNat]
def k10_off2 (k10_t1 : Fin k10_t1_loop.trips) : Fin 2 → Nat :=
  let c1 : Index := 1#32
  let c0_i32_1 : BitVec 32 := 0#32
  let c1_i32 : BitVec 32 := 1#32
  let arg4 : BitVec 32 := Scf.iv c0_i32_1 c1_i32 k10_t1
  let v6 : Index := Scalar.indexCast arg4
  ![1, v6.toNat]
def k10_off3 (v5 : BitVec 32) : Fin 2 → Nat :=
  let v8 : Index := Scalar.indexCast v5
  let c0_3 : Index := 0#32
  ![v8.toNat, 0]

def k10_chk1 (v5 : BitVec 32) : Prop :=
  (∀ a, (k10_off3 v5) a + S1x256.size a ≤ S10000x256.size a)
theorem k10_off3_inb : ∀ (v5 : BitVec 32) (k10_hw1 : k10_chk1 v5), ∀ a, (k10_off3 v5) a + S1x256.size a ≤ S10000x256.size a := fun v5 k10_hw1 => k10_hw1

def k10_off4 (v7 : BitVec 32) : Fin 2 → Nat :=
  let v11 : Index := Scalar.indexCast v7
  let c0_4 : Index := 0#32
  ![v11.toNat, 0]

def k10_chk2 (v7 : BitVec 32) : Prop :=
  (∀ a, (k10_off4 v7) a + S1x256.size a ≤ S10000x256.size a)
theorem k10_off4_inb : ∀ (v7 : BitVec 32) (k10_hw2 : k10_chk2 v7), ∀ a, (k10_off4 v7) a + S1x256.size a ≤ S10000x256.size a := fun v7 k10_hw2 => k10_hw2

def cc10_transform_0 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .smem S2x1280 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S10000x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S10000x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := .none

abbrev stage11_0 : Fin 1 → Memref sig .tc .vmem S10000x256 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))

abbrev stage11_1 : Fin 1 → Memref sig .tc .vmem S10000x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))

abbrev stage11_2 : Fin 1 → Memref sig .tc .vmem S256x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))

abbrev stage11_3 : Fin 1 → Memref sig .tc .vmem S256x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))

abbrev stage11_4 : Fin 1 → Memref sig .tc .vmem S128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))

abbrev stage11_5 : Fin 1 → Memref sig .tc .vmem S10000x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
-- ==== ReferenceIdeal.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x160000 : Shape := ⟨2, ![1, 160000]⟩
abbrev S160000 : Shape := ⟨1, ![160000]⟩
abbrev S1x256 : Shape := ⟨2, ![1, 256]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x256 : Shape := ⟨2, ![160000, 256]⟩
abbrev S10000 : Shape := ⟨1, ![10000]⟩
abbrev S10000x1 : Shape := ⟨2, ![10000, 1]⟩
abbrev S10000x160000 : Shape := ⟨2, ![10000, 160000]⟩
abbrev S10000x160000x1 : Shape := ⟨3, ![10000, 160000, 1]⟩
abbrev S1x160000x256 : Shape := ⟨3, ![1, 160000, 256]⟩
abbrev S10000x160000x256 : Shape := ⟨3, ![10000, 160000, 256]⟩
abbrev S10000x128 : Shape := ⟨2, ![10000, 128]⟩
abbrev S1x128 : Shape := ⟨2, ![1, 128]⟩

abbrev nBuf : Space → Nat
  | .hbm => 267
  | .vmem => 0
  | .smem => 0
  | _ => 0

abbrev hbmTy0_0 (i : Nat) : BufTy := match i % 128 with
  | 0 => ⟨S10000x256, .f32⟩
  | 1 => ⟨S2x160000, .i32⟩
  | 2 => ⟨S256x256, .f32⟩
  | 3 => ⟨S256, .f32⟩
  | 4 => ⟨S256x256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S256, .f32⟩
  | 14 => ⟨S256x128, .f32⟩
  | 15 => ⟨S256x128, .f32⟩
  | 16 => ⟨S128, .f32⟩
  | 17 => ⟨S1x160000, .i32⟩
  | 18 => ⟨S160000, .i32⟩
  | 19 => ⟨S1x160000, .i32⟩
  | 20 => ⟨S160000, .i32⟩
  | 21 => ⟨S10000x256, .f32⟩
  | 22 => ⟨S1x256, .f32⟩
  | 23 => ⟨S10000x256, .f32⟩
  | 24 => ⟨S10000x256, .f32⟩
  | 25 => ⟨S_, .f32⟩
  | 26 => ⟨S10000x256, .f32⟩
  | 27 => ⟨S10000x256, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S1, .i32⟩
  | 37 => ⟨S_, .i32⟩
  | 38 => ⟨S160000x1, .i32⟩
  | 39 => ⟨S160000x1, .i1⟩
  | 40 => ⟨S1x1, .i32⟩
  | 41 => ⟨S160000x1, .i32⟩
  | 42 => ⟨S160000x1, .i1⟩
  | 43 => ⟨S160000x1, .i1⟩
  | 44 => ⟨S_, .i1⟩
  | 45 => ⟨S160000, .i1⟩
  | 46 => ⟨S160000x256, .f32⟩
  | 47 => ⟨S160000x256, .i1⟩
  | 48 => ⟨S_, .f32⟩
  | 49 => ⟨S160000x256, .f32⟩
  | 50 => ⟨S160000x256, .f32⟩
  | 51 => ⟨S1x160000, .i32⟩
  | 52 => ⟨S10000, .i32⟩
  | 53 => ⟨S10000x1, .i32⟩
  | 54 => ⟨S10000x160000, .i32⟩
  | 55 => ⟨S10000x160000, .i32⟩
  | 56 => ⟨S10000x160000, .i1⟩
  | 57 => ⟨S10000x160000x1, .i1⟩
  | 58 => ⟨S1x160000x256, .f32⟩
  | 59 => ⟨S_, .f32⟩
  | 60 => ⟨S_, .f32⟩
  | 61 => ⟨S10000x160000x256, .i1⟩
  | 62 => ⟨S10000x160000x256, .f32⟩
  | 63 => ⟨S10000x160000x256, .f32⟩
  | 64 => ⟨S10000x160000x256, .f32⟩
  | 65 => ⟨S_, .f32⟩
  | 66 => ⟨S10000x256, .f32⟩
  | 67 => ⟨S10000x256, .f32⟩
  | 68 => ⟨S_, .f32⟩
  | 69 => ⟨S10000x256, .f32⟩
  | 70 => ⟨S10000x256, .i1⟩
  | 71 => ⟨S_, .f32⟩
  | 72 => ⟨S_, .f32⟩
  | 73 => ⟨S10000x256, .f32⟩
  | 74 => ⟨S10000x256, .f32⟩
  | 75 => ⟨S10000x256, .f32⟩
  | 76 => ⟨S10000x256, .f32⟩
  | 77 => ⟨S10000x256, .f32⟩
  | 78 => ⟨S1x256, .f32⟩
  | 79 => ⟨S10000x256, .f32⟩
  | 80 => ⟨S10000x256, .f32⟩
  | 81 => ⟨S10000x256, .f32⟩
  | 82 => ⟨S10000x256, .f32⟩
  | 83 => ⟨S10000x256, .f32⟩
  | 84 => ⟨S1x256, .f32⟩
  | 85 => ⟨S10000x256, .f32⟩
  | 86 => ⟨S10000x256, .f32⟩
  | 87 => ⟨S_, .f32⟩
  | 88 => ⟨S10000x256, .f32⟩
  | 89 => ⟨S10000x256, .f32⟩
  | 90 => ⟨S_, .i32⟩
  | 91 => ⟨S160000, .i32⟩
  | 92 => ⟨S160000, .i1⟩
  | 93 => ⟨S_, .i32⟩
  | 94 => ⟨S160000, .i32⟩
  | 95 => ⟨S160000, .i32⟩
  | 96 => ⟨S160000, .i32⟩
  | 97 => ⟨S160000x1, .i32⟩
  | 98 => ⟨S1, .i32⟩
  | 99 => ⟨S_, .i32⟩
  | 100 => ⟨S160000x1, .i32⟩
  | 101 => ⟨S160000x1, .i1⟩
  | 102 => ⟨S1x1, .i32⟩
  | 103 => ⟨S160000x1, .i32⟩
  | 104 => ⟨S160000x1, .i1⟩
  | 105 => ⟨S160000x1, .i1⟩
  | 106 => ⟨S_, .i1⟩
  | 107 => ⟨S160000, .i1⟩
  | 108 => ⟨S160000x256, .f32⟩
  | 109 => ⟨S160000x256, .i1⟩
  | 110 => ⟨S_, .f32⟩
  | 111 => ⟨S160000x256, .f32⟩
  | 112 => ⟨S160000x256, .f32⟩
  | 113 => ⟨S1x160000, .i32⟩
  | 114 => ⟨S10000, .i32⟩
  | 115 => ⟨S10000x1, .i32⟩
  | 116 => ⟨S10000x160000, .i32⟩
  | 117 => ⟨S10000x160000, .i32⟩
  | 118 => ⟨S10000x160000, .i1⟩
  | 119 => ⟨S10000x160000x1, .i1⟩
  | 120 => ⟨S1x160000x256, .f32⟩
  | 121 => ⟨S_, .f32⟩
  | 122 => ⟨S_, .f32⟩
  | 123 => ⟨S10000x160000x256, .i1⟩
  | 124 => ⟨S10000x160000x256, .f32⟩
  | 125 => ⟨S10000x160000x256, .f32⟩
  | 126 => ⟨S10000x160000x256, .f32⟩
  | 127 => ⟨S_, .f32⟩
  | _ => ⟨S10000x256, .f32⟩

abbrev hbmTy0_1 (i : Nat) : BufTy := match i % 128 with
  | 0 => ⟨S10000x256, .f32⟩
  | 1 => ⟨S10000x256, .f32⟩
  | 2 => ⟨S_, .f32⟩
  | 3 => ⟨S10000x256, .f32⟩
  | 4 => ⟨S10000x256, .i1⟩
  | 5 => ⟨S_, .f32⟩
  | 6 => ⟨S_, .f32⟩
  | 7 => ⟨S10000x256, .f32⟩
  | 8 => ⟨S10000x256, .f32⟩
  | 9 => ⟨S10000x256, .f32⟩
  | 10 => ⟨S10000x256, .f32⟩
  | 11 => ⟨S10000x256, .f32⟩
  | 12 => ⟨S1x256, .f32⟩
  | 13 => ⟨S10000x256, .f32⟩
  | 14 => ⟨S10000x256, .f32⟩
  | 15 => ⟨S10000x256, .f32⟩
  | 16 => ⟨S10000x256, .f32⟩
  | 17 => ⟨S10000x256, .f32⟩
  | 18 => ⟨S1x256, .f32⟩
  | 19 => ⟨S10000x256, .f32⟩
  | 20 => ⟨S10000x256, .f32⟩
  | 21 => ⟨S_, .f32⟩
  | 22 => ⟨S10000x256, .f32⟩
  | 23 => ⟨S10000x256, .f32⟩
  | 24 => ⟨S_, .i32⟩
  | 25 => ⟨S160000, .i32⟩
  | 26 => ⟨S160000, .i1⟩
  | 27 => ⟨S_, .i32⟩
  | 28 => ⟨S160000, .i32⟩
  | 29 => ⟨S160000, .i32⟩
  | 30 => ⟨S160000, .i32⟩
  | 31 => ⟨S160000x1, .i32⟩
  | 32 => ⟨S1, .i32⟩
  | 33 => ⟨S_, .i32⟩
  | 34 => ⟨S160000x1, .i32⟩
  | 35 => ⟨S160000x1, .i1⟩
  | 36 => ⟨S1x1, .i32⟩
  | 37 => ⟨S160000x1, .i32⟩
  | 38 => ⟨S160000x1, .i1⟩
  | 39 => ⟨S160000x1, .i1⟩
  | 40 => ⟨S_, .i1⟩
  | 41 => ⟨S160000, .i1⟩
  | 42 => ⟨S160000x256, .f32⟩
  | 43 => ⟨S160000x256, .i1⟩
  | 44 => ⟨S_, .f32⟩
  | 45 => ⟨S160000x256, .f32⟩
  | 46 => ⟨S160000x256, .f32⟩
  | 47 => ⟨S1x160000, .i32⟩
  | 48 => ⟨S10000, .i32⟩
  | 49 => ⟨S10000x1, .i32⟩
  | 50 => ⟨S10000x160000, .i32⟩
  | 51 => ⟨S10000x160000, .i32⟩
  | 52 => ⟨S10000x160000, .i1⟩
  | 53 => ⟨S10000x160000x1, .i1⟩
  | 54 => ⟨S1x160000x256, .f32⟩
  | 55 => ⟨S_, .f32⟩
  | 56 => ⟨S_, .f32⟩
  | 57 => ⟨S10000x160000x256, .i1⟩
  | 58 => ⟨S10000x160000x256, .f32⟩
  | 59 => ⟨S10000x160000x256, .f32⟩
  | 60 => ⟨S10000x160000x256, .f32⟩
  | 61 => ⟨S_, .f32⟩
  | 62 => ⟨S10000x256, .f32⟩
  | 63 => ⟨S10000x256, .f32⟩
  | 64 => ⟨S_, .f32⟩
  | 65 => ⟨S10000x256, .f32⟩
  | 66 => ⟨S10000x256, .i1⟩
  | 67 => ⟨S_, .f32⟩
  | 68 => ⟨S_, .f32⟩
  | 69 => ⟨S10000x256, .f32⟩
  | 70 => ⟨S10000x256, .f32⟩
  | 71 => ⟨S10000x256, .f32⟩
  | 72 => ⟨S10000x256, .f32⟩
  | 73 => ⟨S10000x256, .f32⟩
  | 74 => ⟨S1x256, .f32⟩
  | 75 => ⟨S10000x256, .f32⟩
  | 76 => ⟨S10000x256, .f32⟩
  | 77 => ⟨S10000x256, .f32⟩
  | 78 => ⟨S10000x256, .f32⟩
  | 79 => ⟨S10000x256, .f32⟩
  | 80 => ⟨S1x256, .f32⟩
  | 81 => ⟨S10000x256, .f32⟩
  | 82 => ⟨S10000x256, .f32⟩
  | 83 => ⟨S_, .f32⟩
  | 84 => ⟨S10000x256, .f32⟩
  | 85 => ⟨S10000x256, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S1, .i32⟩
  | 95 => ⟨S_, .i32⟩
  | 96 => ⟨S160000x1, .i32⟩
  | 97 => ⟨S160000x1, .i1⟩
  | 98 => ⟨S1x1, .i32⟩
  | 99 => ⟨S160000x1, .i32⟩
  | 100 => ⟨S160000x1, .i1⟩
  | 101 => ⟨S160000x1, .i1⟩
  | 102 => ⟨S_, .i1⟩
  | 103 => ⟨S160000, .i1⟩
  | 104 => ⟨S160000x256, .f32⟩
  | 105 => ⟨S160000x256, .i1⟩
  | 106 => ⟨S_, .f32⟩
  | 107 => ⟨S160000x256, .f32⟩
  | 108 => ⟨S160000x256, .f32⟩
  | 109 => ⟨S1x160000, .i32⟩
  | 110 => ⟨S10000, .i32⟩
  | 111 => ⟨S10000x1, .i32⟩
  | 112 => ⟨S10000x160000, .i32⟩
  | 113 => ⟨S10000x160000, .i32⟩
  | 114 => ⟨S10000x160000, .i1⟩
  | 115 => ⟨S10000x160000x1, .i1⟩
  | 116 => ⟨S1x160000x256, .f32⟩
  | 117 => ⟨S_, .f32⟩
  | 118 => ⟨S_, .f32⟩
  | 119 => ⟨S10000x160000x256, .i1⟩
  | 120 => ⟨S10000x160000x256, .f32⟩
  | 121 => ⟨S10000x160000x256, .f32⟩
  | 122 => ⟨S10000x160000x256, .f32⟩
  | 123 => ⟨S_, .f32⟩
  | 124 => ⟨S10000x256, .f32⟩
  | 125 => ⟨S10000x256, .f32⟩
  | 126 => ⟨S_, .f32⟩
  | 127 => ⟨S10000x256, .f32⟩
  | _ => ⟨S10000x256, .f32⟩

abbrev hbmTy0_2 (i : Nat) : BufTy := match i % 128 with
  | 0 => ⟨S10000x256, .i1⟩
  | 1 => ⟨S_, .f32⟩
  | 2 => ⟨S_, .f32⟩
  | 3 => ⟨S10000x256, .f32⟩
  | 4 => ⟨S10000x256, .f32⟩
  | 5 => ⟨S10000x128, .f32⟩
  | 6 => ⟨S10000x128, .f32⟩
  | 7 => ⟨S10000x128, .f32⟩
  | 8 => ⟨S1x128, .f32⟩
  | 9 => ⟨S10000x128, .f32⟩
  | 10 => ⟨S10000x128, .f32⟩
  | _ => ⟨S10000x256, .f32⟩

abbrev hbmTy (i : Nat) : BufTy := match i / 128 with
  | 0 => hbmTy0_0 i
  | 1 => hbmTy0_1 i
  | 2 => hbmTy0_2 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_v18 : Ref sig .tc := ⟨.hbm, 64, rfl⟩
abbrev main_cst_0 : Ref sig .tc := ⟨.hbm, 65, rfl⟩
abbrev main_v19 : Ref sig .tc := ⟨.hbm, 66, rfl⟩
abbrev main_v20 : Ref sig .tc := ⟨.hbm, 67, rfl⟩
abbrev main_cst_1 : Ref sig .tc := ⟨.hbm, 68, rfl⟩
abbrev main_v21 : Ref sig .tc := ⟨.hbm, 69, rfl⟩
abbrev main_v22 : Ref sig .tc := ⟨.hbm, 70, rfl⟩
abbrev main_cst_2 : Ref sig .tc := ⟨.hbm, 71, rfl⟩
abbrev main_call3_v0 : Ref sig .tc := ⟨.hbm, 72, rfl⟩
abbrev main_call3_v1 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_call4_cst : Ref sig .tc := ⟨.hbm, 87, rfl⟩
abbrev main_call4_v0 : Ref sig .tc := ⟨.hbm, 88, rfl⟩
abbrev main_v36 : Ref sig .tc := ⟨.hbm, 89, rfl⟩
abbrev main_call5_c : Ref sig .tc := ⟨.hbm, 90, rfl⟩
abbrev main_call5_v0 : Ref sig .tc := ⟨.hbm, 91, rfl⟩
abbrev main_call5_v1 : Ref sig .tc := ⟨.hbm, 92, rfl⟩
abbrev main_call5_c_0 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_c_1 : Ref sig .tc := ⟨.hbm, 98, rfl⟩
abbrev main_call5_c_2 : Ref sig .tc := ⟨.hbm, 99, rfl⟩
abbrev main_call5_v6 : Ref sig .tc := ⟨.hbm, 100, rfl⟩
abbrev main_call5_v7 : Ref sig .tc := ⟨.hbm, 101, rfl⟩
abbrev main_call5_v8 : Ref sig .tc := ⟨.hbm, 102, rfl⟩
abbrev main_call5_v9 : Ref sig .tc := ⟨.hbm, 103, rfl⟩
abbrev main_call5_v10 : Ref sig .tc := ⟨.hbm, 104, rfl⟩
abbrev main_call5_v11 : Ref sig .tc := ⟨.hbm, 105, rfl⟩
abbrev main_call5_c_3 : Ref sig .tc := ⟨.hbm, 106, rfl⟩
abbrev main_call5_v12 : Ref sig .tc := ⟨.hbm, 107, rfl⟩
abbrev main_call5_v13 : Ref sig .tc := ⟨.hbm, 108, rfl⟩
abbrev main_call5_v14 : Ref sig .tc := ⟨.hbm, 109, rfl⟩
abbrev main_call5_cst : Ref sig .tc := ⟨.hbm, 110, rfl⟩
abbrev main_call5_v15 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_cst_3 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_v46 : Ref sig .tc := ⟨.hbm, 126, rfl⟩
abbrev main_cst_4 : Ref sig .tc := ⟨.hbm, 127, rfl⟩
abbrev main_v47 : Ref sig .tc := ⟨.hbm, 128, rfl⟩
abbrev main_v48 : Ref sig .tc := ⟨.hbm, 129, rfl⟩
abbrev main_cst_5 : Ref sig .tc := ⟨.hbm, 130, rfl⟩
abbrev main_v49 : Ref sig .tc := ⟨.hbm, 131, rfl⟩
abbrev main_v50 : Ref sig .tc := ⟨.hbm, 132, rfl⟩
abbrev main_cst_6 : Ref sig .tc := ⟨.hbm, 133, rfl⟩
abbrev main_call7_v0 : Ref sig .tc := ⟨.hbm, 134, rfl⟩
abbrev main_call7_v1 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_call8_cst : Ref sig .tc := ⟨.hbm, 149, rfl⟩
abbrev main_call8_v0 : Ref sig .tc := ⟨.hbm, 150, rfl⟩
abbrev main_v64 : Ref sig .tc := ⟨.hbm, 151, rfl⟩
abbrev main_call9_c : Ref sig .tc := ⟨.hbm, 152, rfl⟩
abbrev main_call9_v0 : Ref sig .tc := ⟨.hbm, 153, rfl⟩
abbrev main_call9_v1 : Ref sig .tc := ⟨.hbm, 154, rfl⟩
abbrev main_call9_c_0 : Ref sig .tc := ⟨.hbm, 155, rfl⟩
abbrev main_call9_v2 : Ref sig .tc := ⟨.hbm, 156, rfl⟩
abbrev main_call9_v3 : Ref sig .tc := ⟨.hbm, 157, rfl⟩
abbrev main_call9_v4 : Ref sig .tc := ⟨.hbm, 158, rfl⟩
abbrev main_call9_v5 : Ref sig .tc := ⟨.hbm, 159, rfl⟩
abbrev main_call9_c_1 : Ref sig .tc := ⟨.hbm, 160, rfl⟩
abbrev main_call9_c_2 : Ref sig .tc := ⟨.hbm, 161, rfl⟩
abbrev main_call9_v6 : Ref sig .tc := ⟨.hbm, 162, rfl⟩
abbrev main_call9_v7 : Ref sig .tc := ⟨.hbm, 163, rfl⟩
abbrev main_call9_v8 : Ref sig .tc := ⟨.hbm, 164, rfl⟩
abbrev main_call9_v9 : Ref sig .tc := ⟨.hbm, 165, rfl⟩
abbrev main_call9_v10 : Ref sig .tc := ⟨.hbm, 166, rfl⟩
abbrev main_call9_v11 : Ref sig .tc := ⟨.hbm, 167, rfl⟩
abbrev main_call9_c_3 : Ref sig .tc := ⟨.hbm, 168, rfl⟩
abbrev main_call9_v12 : Ref sig .tc := ⟨.hbm, 169, rfl⟩
abbrev main_call9_v13 : Ref sig .tc := ⟨.hbm, 170, rfl⟩
abbrev main_call9_v14 : Ref sig .tc := ⟨.hbm, 171, rfl⟩
abbrev main_call9_cst : Ref sig .tc := ⟨.hbm, 172, rfl⟩
abbrev main_call9_v15 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_v71 : Ref sig .tc := ⟨.hbm, 180, rfl⟩
abbrev main_v72 : Ref sig .tc := ⟨.hbm, 181, rfl⟩
abbrev main_v73 : Ref sig .tc := ⟨.hbm, 182, rfl⟩
abbrev main_cst_7 : Ref sig .tc := ⟨.hbm, 183, rfl⟩
abbrev main_call10_v0 : Ref sig .tc := ⟨.hbm, 184, rfl⟩
abbrev main_call10_v1 : Ref sig .tc := ⟨.hbm, 185, rfl⟩
abbrev main_call10_v2 : Ref sig .tc := ⟨.hbm, 186, rfl⟩
abbrev main_call10_v3 : Ref sig .tc := ⟨.hbm, 187, rfl⟩
abbrev main_v74 : Ref sig .tc := ⟨.hbm, 188, rfl⟩
abbrev main_cst_8 : Ref sig .tc := ⟨.hbm, 189, rfl⟩
abbrev main_v75 : Ref sig .tc := ⟨.hbm, 190, rfl⟩
abbrev main_v76 : Ref sig .tc := ⟨.hbm, 191, rfl⟩
abbrev main_cst_9 : Ref sig .tc := ⟨.hbm, 192, rfl⟩
abbrev main_v77 : Ref sig .tc := ⟨.hbm, 193, rfl⟩
abbrev main_v78 : Ref sig .tc := ⟨.hbm, 194, rfl⟩
abbrev main_cst_10 : Ref sig .tc := ⟨.hbm, 195, rfl⟩
abbrev main_call11_v0 : Ref sig .tc := ⟨.hbm, 196, rfl⟩
abbrev main_call11_v1 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩
abbrev main_v86 : Ref sig .tc := ⟨.hbm, 205, rfl⟩
abbrev main_v87 : Ref sig .tc := ⟨.hbm, 206, rfl⟩
abbrev main_v88 : Ref sig .tc := ⟨.hbm, 207, rfl⟩
abbrev main_v89 : Ref sig .tc := ⟨.hbm, 208, rfl⟩
abbrev main_v90 : Ref sig .tc := ⟨.hbm, 209, rfl⟩
abbrev main_v91 : Ref sig .tc := ⟨.hbm, 210, rfl⟩
abbrev main_call12_cst : Ref sig .tc := ⟨.hbm, 211, rfl⟩
abbrev main_call12_v0 : Ref sig .tc := ⟨.hbm, 212, rfl⟩
abbrev main_v92 : Ref sig .tc := ⟨.hbm, 213, rfl⟩
abbrev main_call13_c : Ref sig .tc := ⟨.hbm, 214, rfl⟩
abbrev main_call13_v0 : Ref sig .tc := ⟨.hbm, 215, rfl⟩
abbrev main_call13_v1 : Ref sig .tc := ⟨.hbm, 216, rfl⟩
abbrev main_call13_c_0 : Ref sig .tc := ⟨.hbm, 217, rfl⟩
abbrev main_call13_v2 : Ref sig .tc := ⟨.hbm, 218, rfl⟩
abbrev main_call13_v3 : Ref sig .tc := ⟨.hbm, 219, rfl⟩
abbrev main_call13_v4 : Ref sig .tc := ⟨.hbm, 220, rfl⟩
abbrev main_call13_v5 : Ref sig .tc := ⟨.hbm, 221, rfl⟩
abbrev main_call13_c_1 : Ref sig .tc := ⟨.hbm, 222, rfl⟩
abbrev main_call13_c_2 : Ref sig .tc := ⟨.hbm, 223, rfl⟩
abbrev main_call13_v6 : Ref sig .tc := ⟨.hbm, 224, rfl⟩
abbrev main_call13_v7 : Ref sig .tc := ⟨.hbm, 225, rfl⟩
abbrev main_call13_v8 : Ref sig .tc := ⟨.hbm, 226, rfl⟩
abbrev main_call13_v9 : Ref sig .tc := ⟨.hbm, 227, rfl⟩
abbrev main_call13_v10 : Ref sig .tc := ⟨.hbm, 228, rfl⟩
abbrev main_call13_v11 : Ref sig .tc := ⟨.hbm, 229, rfl⟩
abbrev main_call13_c_3 : Ref sig .tc := ⟨.hbm, 230, rfl⟩
abbrev main_call13_v12 : Ref sig .tc := ⟨.hbm, 231, rfl⟩
abbrev main_call13_v13 : Ref sig .tc := ⟨.hbm, 232, rfl⟩
abbrev main_call13_v14 : Ref sig .tc := ⟨.hbm, 233, rfl⟩
abbrev main_call13_cst : Ref sig .tc := ⟨.hbm, 234, rfl⟩
abbrev main_call13_v15 : Ref sig .tc := ⟨.hbm, 235, rfl⟩
abbrev main_v93 : Ref sig .tc := ⟨.hbm, 236, rfl⟩
abbrev main_v94 : Ref sig .tc := ⟨.hbm, 237, rfl⟩
abbrev main_v95 : Ref sig .tc := ⟨.hbm, 238, rfl⟩
abbrev main_v96 : Ref sig .tc := ⟨.hbm, 239, rfl⟩
abbrev main_v97 : Ref sig .tc := ⟨.hbm, 240, rfl⟩
abbrev main_v98 : Ref sig .tc := ⟨.hbm, 241, rfl⟩
abbrev main_v99 : Ref sig .tc := ⟨.hbm, 242, rfl⟩
abbrev main_v100 : Ref sig .tc := ⟨.hbm, 243, rfl⟩
abbrev main_v101 : Ref sig .tc := ⟨.hbm, 244, rfl⟩
abbrev main_cst_11 : Ref sig .tc := ⟨.hbm, 245, rfl⟩
abbrev main_call14_v0 : Ref sig .tc := ⟨.hbm, 246, rfl⟩
abbrev main_call14_v1 : Ref sig .tc := ⟨.hbm, 247, rfl⟩
abbrev main_call14_v2 : Ref sig .tc := ⟨.hbm, 248, rfl⟩
abbrev main_call14_v3 : Ref sig .tc := ⟨.hbm, 249, rfl⟩
abbrev main_v102 : Ref sig .tc := ⟨.hbm, 250, rfl⟩
abbrev main_cst_12 : Ref sig .tc := ⟨.hbm, 251, rfl⟩
abbrev main_v103 : Ref sig .tc := ⟨.hbm, 252, rfl⟩
abbrev main_v104 : Ref sig .tc := ⟨.hbm, 253, rfl⟩
abbrev main_cst_13 : Ref sig .tc := ⟨.hbm, 254, rfl⟩
abbrev main_v105 : Ref sig .tc := ⟨.hbm, 255, rfl⟩
abbrev main_v106 : Ref sig .tc := ⟨.hbm, 256, rfl⟩
abbrev main_cst_14 : Ref sig .tc := ⟨.hbm, 257, rfl⟩
abbrev main_call15_v0 : Ref sig .tc := ⟨.hbm, 258, rfl⟩
abbrev main_call15_v1 : Ref sig .tc := ⟨.hbm, 259, rfl⟩
abbrev main_v107 : Ref sig .tc := ⟨.hbm, 260, rfl⟩
abbrev main_v108 : Ref sig .tc := ⟨.hbm, 261, rfl⟩
abbrev main_v109 : Ref sig .tc := ⟨.hbm, 262, rfl⟩
abbrev main_v110 : Ref sig .tc := ⟨.hbm, 263, rfl⟩
abbrev main_v111 : Ref sig .tc := ⟨.hbm, 264, rfl⟩
abbrev main_v112 : Ref sig .tc := ⟨.hbm, 265, rfl⟩
abbrev main_v113 : Ref sig .tc := ⟨.hbm, 266, rfl⟩

abbrev nD : Nat := 1
abbrev τ : Topo := Topo.v7x

variable {F : FTy → Type} [FloatOps F]
-- ==== Proof.Bodies.lean ====
/-
  What the kernel's bodies compute, as triples over whole staging memrefs: the dense layer with its positive part, the two
  combinations (with and without `tanh`), and the segment maximum, whose loop takes one edge per trip. Stated for any float
  carrier `F`, on the kernel's idealization; the other layers' bodies are the same programs.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Regions
public import Idealize.ShloMosaic.Lib.Pipeline.FrameBody
public import Idealize.ShloMosaic.Lib.Pipeline.RegionArraysS
public import Idealize.ShloMosaic.Lib.Pipeline.Value
public import Idealize.ShloMosaic.Lib.VecWindow
public import Idealize.ShloMosaic.Lib.WritesUnit
public import Idealize.ShloMosaic.Lib.Tactic
public import Idealize.ShloMosaic.Lib.WordCmp

@[expose] public section

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The segment maximum on plain arrays -/

/-- The place at row `i`, column `j` of a 10000 by 256 array. -/
def at2 (i : Fin 10000) (j : Fin 256) : S10000x256.Idx := fun | ⟨0, _⟩ => i | ⟨1, _⟩ => j

/-- The place at row `r`, column `k` of a block of edges. -/
def edgeAt (r : Fin 2) (k : Fin 1280) : S2x1280.Idx := fun | ⟨0, _⟩ => r | ⟨1, _⟩ => k

/-- Row `s` of `m`, read at every row. -/
def rowOf (m : Vec F S10000x256 .f32) (s : BitVec 32) : Vec F S10000x256 .f32 :=
  fun y => if h : s.toNat < 10000 then m (at2 ⟨s.toNat, h⟩ (y 1)) else m y

/-- One edge from `s` to `d`: row `d` of `g` becomes its maximum with row `s` of `m`. -/
def edgeStep (m g : Vec F S10000x256 .f32) (s d : BitVec 32) : Vec F S10000x256 .f32 :=
  fun y => if (y 0).val = d.toNat then maximumf g (rowOf m s) y else g y

/-- The first `k` edges of the block `e`, taken one after the other into `g`. -/
def blockFold (m : Vec F S10000x256 .f32) (e : Vec F S2x1280 .i32) (g : Vec F S10000x256 .f32) : ℕ → Vec F S10000x256 .f32
  | 0 => g
  | k + 1 => if h : k < 1280 then edgeStep m (blockFold m e g k) (e (edgeAt 0 ⟨k, h⟩)) (e (edgeAt 1 ⟨k, h⟩)) else blockFold m e g k

/-- Every word of the block names one of the 10000 rows. -/
def InRange (e : Vec F S2x1280 .i32) : Prop := ∀ y, BitVec.toNat (w := 32) (e y) < 10000

/-- A word below 10000 passes the check on the row loaded. -/
theorem chk1_of (v : BitVec 32) (h : v.toNat < 10000) : k1_chk1 v := by
  unfold k1_chk1 k1_off3; intro a
  fin_cases a <;> simp [Scalar.indexCast] <;> omega

/-- A word below 10000 passes the check on the row stored. -/
theorem chk2_of (v : BitVec 32) (h : v.toNat < 10000) : k1_chk2 v := by
  unfold k1_chk2 k1_off4; intro a
  fin_cases a <;> simp [Scalar.indexCast] <;> omega

/-- The loop runs 1280 trips. -/
theorem trips_eq : k1_t1_loop.trips = 1280 := by decide +kernel

/-- Trip `k` reads its source at column `k`. -/
theorem off1_eq (k : Fin k1_t1_loop.trips) : k1_off1 k = ![0, k.val] := by
  have hk : k.val < 1280 := trips_eq ▸ k.isLt
  unfold k1_off1
  simp only [Scalar.indexCast, Scf.iv]
  congr 2
  simp [BitVec.toNat_add, BitVec.toNat_mul]
  omega

/-- Trip `k` reads its target at column `k`. -/
theorem off2_eq (k : Fin k1_t1_loop.trips) : k1_off2 k = ![1, k.val] := by
  have hk : k.val < 1280 := trips_eq ▸ k.isLt
  unfold k1_off2
  simp only [Scalar.indexCast, Scf.iv]
  congr 2
  simp [BitVec.toNat_add, BitVec.toNat_mul]
  omega

/-- The source word trip `k` reads of a block held at `X`. -/
theorem word1_eq (arg1 : Memref sig .tc .smem S2x1280 .i32) (X : BufTy.Contents (Elt F) arg1.view.ty) (k : Fin k1_t1_loop.trips) (h : k.val < 1280) :
    arg1.view.readAt (Elt F) (Rect.unit (s := S2x1280) (k1_off1 k) S1x1.size (k1_off1_inb k)).toLoadRect X (Shape.Idx.first (numel1_S1x1.symm ▸ Nat.one_pos))
      = arg1.view.read (Elt F) X (edgeAt 0 ⟨k.val, h⟩) := by
  have h1 : ∀ a, (![0, k.val] : Fin 2 → ℕ) a + S1x1.size a ≤ S2x1280.size a := by
    have := k1_off1_inb k; rwa [off1_eq] at this
  rw [View.readAt_unit arg1.view X (k1_off1_inb k) (off1_eq k) h1]
  unfold VecWindow.window
  congr 1
  funext a
  apply Fin.ext
  fin_cases a
  · show 0 + 1 * 0 = 0; rfl
  · show k.val + 1 * 0 = k.val; omega

/-- The target word trip `k` reads of a block held at `X`. -/
theorem word2_eq (arg1 : Memref sig .tc .smem S2x1280 .i32) (X : BufTy.Contents (Elt F) arg1.view.ty) (k : Fin k1_t1_loop.trips) (h : k.val < 1280) :
    arg1.view.readAt (Elt F) (Rect.unit (s := S2x1280) (k1_off2 k) S1x1.size (k1_off2_inb k)).toLoadRect X (Shape.Idx.first (numel1_S1x1.symm ▸ Nat.one_pos))
      = arg1.view.read (Elt F) X (edgeAt 1 ⟨k.val, h⟩) := by
  have h1 : ∀ a, (![1, k.val] : Fin 2 → ℕ) a + S1x1.size a ≤ S2x1280.size a := by
    have := k1_off2_inb k; rwa [off2_eq] at this
  rw [View.readAt_unit arg1.view X (k1_off2_inb k) (off2_eq k) h1]
  unfold VecWindow.window
  congr 1
  funext a
  apply Fin.ext
  fin_cases a
  · show 1 + 1 * 0 = 1; rfl
  · show k.val + 1 * 0 = k.val; omega

/-- One trip's store over contents `f3`: what the result buffer then reads is the edge's step. -/
theorem read_trip (arg2 arg3 : Memref sig .tc .vmem S10000x256 .f32) (X2 : BufTy.Contents (Elt F) arg2.view.ty) (f3 : BufTy.Contents (Elt F) arg3.view.ty)
    (s d : BitVec 32) (hs : k1_chk1 s) (hd : k1_chk2 d) (hs' : s.toNat < 10000) (hd' : d.toNat < 10000) :
    arg3.view.read (Elt F) (arg3.view.writes (Elt F) f3
      [⟨Rect.unit (s := S10000x256) (k1_off4 d) S1x256.size (k1_off4_inb d hd),
        k1_pay2 (arg2.view.readAt (Elt F) (Rect.unit (s := S10000x256) (k1_off3 s) S1x256.size (k1_off3_inb s hs)).toLoadRect X2)
          (arg3.view.readAt (Elt F) (Rect.unit (s := S10000x256) (k1_off4 d) S1x256.size (k1_off4_inb d hd)).toLoadRect f3)⟩])
      = edgeStep (arg2.view.read (Elt F) X2) (arg3.view.read (Elt F) f3) s d := by
  have e3 : k1_off3 s = ![s.toNat, 0] := by unfold k1_off3; simp [Scalar.indexCast]
  have e4 : k1_off4 d = ![d.toNat, 0] := by unfold k1_off4; simp [Scalar.indexCast]
  have i3 : ∀ a, (![s.toNat, 0] : Fin 2 → ℕ) a + S1x256.size a ≤ S10000x256.size a := e3 ▸ k1_off3_inb s hs
  have i4 : ∀ a, (![d.toNat, 0] : Fin 2 → ℕ) a + S1x256.size a ≤ S10000x256.size a := e4 ▸ k1_off4_inb d hd
  rw [View.readAt_unit arg2.view X2 (k1_off3_inb s hs) e3 i3, View.readAt_unit arg3.view f3 (k1_off4_inb d hd) e4 i4]
  funext y
  unfold edgeStep
  by_cases hy : (y 0).val = d.toNat
  · rw [if_pos hy]
    have hy1 : (y 1).val < 256 := (y 1).isLt
    let x : S1x256.Idx := fun | ⟨0, _⟩ => ⟨0, Nat.one_pos⟩ | ⟨1, _⟩ => ⟨(y 1).val, hy1⟩
    refine (View.read_writes_cons_rows_of_mem (d := ![10000, 256]) arg3.view f3 (k1_off4_inb d hd) _ [] y x e4 (by show (y 0).val = d.toNat + 0; omega) rfl).trans ?_
    unfold k1_pay2
    simp only [shapeCast_self]
    unfold maximumf rowOf VecWindow.window
    rw [dif_pos hs']
    congr 2
    · funext a; apply Fin.ext
      fin_cases a
      · show d.toNat + 1 * 0 = (y 0).val; omega
      · show 0 + 1 * (y 1).val = (y 1).val; omega
    · funext a; apply Fin.ext
      fin_cases a
      · show s.toNat + 1 * 0 = s.toNat; omega
      · show 0 + 1 * (y 1).val = (y 1).val; omega
  · rw [if_neg hy]
    exact View.read_writes_cons_rows_of_not_mem (d := ![10000, 256]) (W := 1) arg3.view f3 (k1_off4_inb d hd) _ [] y e4 rfl (by omega)

/-- One trip at contents that read `G`: the result buffer reads the edge's step. -/
theorem trip_spec (c : Dev nD) (E : Set ℕ) (i : grid1.Coords) (arg1 : Memref sig .tc .smem S2x1280 .i32) (harg1 : arg1.IsWhole)
    (arg2 : Memref sig .tc .vmem S10000x256 .f32) (harg2 : arg2.IsWhole) (arg3 : Memref sig .tc .vmem S10000x256 .f32) (harg3 : arg3.IsWhole)
    (X1 : BufTy.Contents (Elt F) arg1.view.ty) (X2 : BufTy.Contents (Elt F) arg2.view.ty) (f3 : BufTy.Contents (Elt F) arg3.view.ty)
    (hX : InRange (arg1.view.read (Elt F) X1)) (k : Fin k1_t1_loop.trips) (hk : k.val < 1280) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} f3))
      ⊢ (wp frame (wpE (defs₀ (F := F)) Variants.none (c : Thread nD τ) none) E (k1_t1_body (F := F) i arg1 harg1 arg2 harg2 arg3 harg3 k PUnit.unit)
          (fun _ => iprop((arg1.view.loc (c : Thread nD τ) ↦[arg1.view.set]{fullShare} X1) ∗ (arg2.view.loc (c : Thread nD τ) ↦[arg2.view.set]{fullShare} X2)
            ∗ (∃ f, (arg3.view.loc (c : Thread nD τ) ↦[arg3.view.set]{fullShare} f) ∗ ⌜arg3.view.read (Elt F) f = edgeStep (arg2.view.read (Elt F) X2) (arg3.view.read (Elt F) f3)
                (arg1.view.read (Elt F) X1 (edgeAt 0 ⟨k.val, hk⟩)) (arg1.view.read (Elt F) X1 (edgeAt 1 ⟨k.val, hk⟩))⌝))) : sProp 𝕄) := by
  have k1_hw1 : k1_chk1 (arg1.view.readAt (Elt F) (Rect.unit (s := S2x1280) (k1_off1 k) S1x1.size (k1_off1_inb k)).toLoadRect X1 (Shape.Idx.first (numel1_S1x1.symm ▸ Nat.one_pos))) := by
    rw [word1_eq arg1 X1 k hk]; exact chk1_of _ (hX _)
  have k1_hw2 : k1_chk2 (arg1.view.readAt (Elt F) (Rect.unit (s := S2x1280) (k1_off2 k) S1x1.size (k1_off2_inb k)).toLoadRect X1 (Shape.Idx.first (numel1_S1x1.symm ▸ Nat.one_pos))) := by
    rw [word2_eq arg1 X1 k hk]; exact chk2_of _ (hX _)
  unfold k1_t1_body
  iintro ⟨H1, H2, H3⟩
  sl_exec
  sl_step
  isplitl [H1]; · iexact H1
  isplitl [H2]; · iexact H2
  iexists _; isplitl [H3]; · iexact H3
  ipureintro
  refine (read_trip arg2 arg3 X2 f3 _ _ k1_hw1 k1_hw2 ?_ ?_).trans ?_
  · rw [word1_eq arg1 X1 k hk]; exact hX _
  · rw [word2_eq arg1 X1 k hk]; exact hX _
  · rw [word1_eq arg1 X1 k hk, word2_eq arg1 X1 k hk]

set_option warn.classDefReducibility false in
/-- The loop by its invariant: before trip `k` the result buffer reads the fold of the block's first `k` edges. -/
@[sl_loop] def foldInv (c : Dev nD) (E : Set ℕ) (i : grid1.Coords) (arg1 : Memref sig .tc .smem S2x1280 .i32) (harg1 : arg1.IsWhole)
    (arg2 : Memref sig .tc .vmem S10000x256 .f32) (harg2 : arg2.IsWhole) (arg3 : Memref sig .tc .vmem S10000x256 .f32) (harg3 : arg3.IsWhole)
    (X1 : BufTy.Contents (Elt F) arg1.view.ty) (X2 : BufTy.Contents (Elt F) arg2.view.ty) (G : BufTy.Contents (Elt F) arg3.view.ty)
    (hX : InRange (arg1.view.read (Elt F) X1)) :
    LoopInvTy_k1_t1 (F := F) Unit ℕ (UR sig nD τ) ℕ Variants.none c none E i arg1 harg1 arg2 harg2 arg3 harg3 where
  inv k _ := iprop((arg1.view.loc (c : Thread nD τ) ↦[arg1.view.set]{fullShare} X1) ∗ (arg2.view.loc (c : Thread nD τ) ↦[arg2.view.set]{fullShare} X2)
      ∗ (∃ f, (arg3.view.loc (c : Thread nD τ) ↦[arg3.view.set]{fullShare} f)
          ∗ ⌜arg3.view.read (Elt F) f = blockFold (arg2.view.read (Elt F) X2) (arg1.view.read (Elt F) X1) (arg3.view.read (Elt F) G) k⌝))
  step k acc := by
    have hk : k.val < 1280 := trips_eq ▸ k.isLt
    iintro ⟨H1, H2, ⟨%f, H3, %hf⟩⟩
    iapply (wp_wand_r Idealize.ShloMosaic.frame (wpE (defs₀ (F := F)) Variants.none (c : Thread nD τ) none) E)
    isplitl [H1 H2 H3]
    · iapply (trip_spec c E i arg1 harg1 arg2 harg2 arg3 harg3 X1 X2 f hX k hk)
      isplitl [H1]; · iexact H1
      isplitl [H2]; · iexact H2
      iexact H3
    iintro %r ⟨H1, H2, ⟨%f', H3, %hf'⟩⟩
    isplitl [H1]; · iexact H1
    isplitl [H2]; · iexact H2
    iexists _; isplitl [H3]; · iexact H3
    ipureintro
    rw [hf', hf]
    show _ = blockFold _ _ _ (k.val + 1)
    rw [blockFold, dif_pos hk]

/-! ## The bodies' triples -/

/-- The branch of the segment maximum that stores zeros: taken where the grid's coordinate is 0. -/
abbrev atFirst (i : grid1.Coords) : Prop := (Scalar.cmpi .ne (Scalar.extui (Scalar.cmpi .eq (BitVec.ofNat 32 (i 0).val) 0#32)) 0#32) = 1#1

/-- That branch is taken at the first point only. -/
theorem atFirst_iff : ∀ t : Fin grid1.N, atFirst (grid1.coords t) ↔ t.val % 125 = 0 := fun t => by
  have ht : t.val < 125 := Nat.lt_of_lt_of_eq t.isLt N_1
  have e0 : (grid1.coords t 0).val = t.val / 1 % 125 := Pipeline.Grid.coords_val t 0 (by decide) rfl
  simp only [atFirst, e0]
  word_cmp

/-- What the result buffer of the segment maximum holds after the point at coordinates `i`, which finds `g` in it. -/
def segOut (i : grid1.Coords) (e : Vec F S2x1280 .i32) (m g : Vec F S10000x256 .f32) : Vec F S10000x256 .f32 :=
  if atFirst i then blockFold m e k1_pay1 1280 else blockFold m e g 1280

/-- The segment maximum's body: the block's edges folded into zeros at the first point, into what is there at the others. -/
theorem seg_triple (c : Dev nD) (i : grid1.Coords) (arg1 : Memref sig .tc .smem S2x1280 .i32) (harg1 : arg1.IsWhole)
    (arg2 : Memref sig .tc .vmem S10000x256 .f32) (harg2 : arg2.IsWhole) (arg3 : Memref sig .tc .vmem S10000x256 .f32) (harg3 : arg3.IsWhole)
    (x1 : Vec F S2x1280 .i32) (x2 g : Vec F S10000x256 .f32) (hX : InRange x1) (E : Set ℕ) (K : PUnit → sProp 𝕄) :
    iprop(owns (c : Thread nD τ) arg1 fullShare x1 ∗ owns (c : Thread nD τ) arg2 fullShare x2 ∗ owns (c : Thread nD τ) arg3 fullShare g
        ∗ (iprop(owns (c : Thread nD τ) arg1 fullShare x1 ∗ owns (c : Thread nD τ) arg2 fullShare x2 ∗ owns (c : Thread nD τ) arg3 fullShare (segOut i x1 x2 g)) -∗ K ⟨⟩))
      ⊢ wp frame (wpE (defs₀ (F := F)) Variants.none c none) E (cc1__segmax_body i arg1 harg1 arg2 harg2 arg3 harg3) K := by
  simp only [cc1__segmax_body_eq_skeleton]; unfold cc1__segmax_body_skel
  unfold owns
  iintro ⟨⟨%f1, %hf1, H1⟩, ⟨%f2, %hf2, H2⟩, ⟨%f3, %hf3, H3⟩, Hk⟩
  subst hf1 hf2 hf3
  by_cases hc0 : atFirst i
  · sl_exec (disch := first | sl_exact hc0)
    sl_step
    iapply Hk
    isplitl [H1]
    · iexists _; isplitr; · ipureintro; rfl
      iexact H1
    isplitl [H2]
    · iexists _; isplitr; · ipureintro; rfl
      iexact H2
    iexists _; isplitr; swap; · iexact H3
    ipureintro
    rw [segOut, if_pos hc0, hL3, show Scf.trips k1_t1_loop.lb k1_t1_loop.ub k1_t1_loop.st = 1280 from trips_eq]
    refine congrArg (fun g => blockFold (View.read (Elt F) arg2.view f2) (View.read (Elt F) arg1.view f1) g 1280) ?_
    sl_unfold_words
    exact View.read_writes_full arg3.view _ inb_S10000x256_S10000x256_0_0 _ []
  · sl_exec (disch := first | sl_exact hc0)
    sl_step
    iapply Hk
    isplitl [H1]
    · iexists _; isplitr; · ipureintro; rfl
      iexact H1
    isplitl [H2]
    · iexists _; isplitr; · ipureintro; rfl
      iexact H2
    iexists _; isplitr; swap; · iexact H3
    ipureintro
    rw [segOut, if_neg hc0, hL3, show Scf.trips k1_t1_loop.lb k1_t1_loop.ub k1_t1_loop.st = 1280 from trips_eq]

/-- The dense layer with its positive part. -/
theorem relu_triple (c : Dev nD) (arg0 : Memref sig .tc .vmem S10000x256 .f32) (harg0 : arg0.IsWhole) (arg1 : Memref sig .tc .vmem S256x256 .f32) (harg1 : arg1.IsWhole)
    (arg2 : Memref sig .tc .vmem S256 .f32) (harg2 : arg2.IsWhole) (arg3 : Memref sig .tc .vmem S10000x256 .f32) (harg3 : arg3.IsWhole)
    (x0 : Vec F S10000x256 .f32) (x1 : Vec F S256x256 .f32) (x2 : Vec F S256 .f32) (E : Set ℕ) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (k0_pay1 x0 x1 x2)) -∗ K ⟨⟩))
      ⊢ wp frame (wpE (defs₀ (F := F)) Variants.none c none) E (cc0__mm_relu_body arg0 harg0 arg1 harg1 arg2 harg2 arg3 harg3) K := by
  simp only [cc0__mm_relu_body_eq_skeleton]; unfold cc0__mm_relu_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr; swap; · iexact H3
  ipureintro
  refine (View.read_writes_full arg3.view _ inb_S10000x256_S10000x256_0_0 _ []).trans ?_
  rw [View.readAt_full, View.readAt_full, View.readAt_full]

/-- The combination of a layer's rows with its maxima, through `tanh`. -/
theorem comb_triple (c : Dev nD) (arg0 : Memref sig .tc .vmem S10000x256 .f32) (harg0 : arg0.IsWhole) (arg1 : Memref sig .tc .vmem S10000x256 .f32) (harg1 : arg1.IsWhole)
    (arg2 : Memref sig .tc .vmem S256x256 .f32) (harg2 : arg2.IsWhole) (arg3 : Memref sig .tc .vmem S256x256 .f32) (harg3 : arg3.IsWhole)
    (arg4 : Memref sig .tc .vmem S256 .f32) (harg4 : arg4.IsWhole) (arg5 : Memref sig .tc .vmem S10000x256 .f32) (harg5 : arg5.IsWhole)
    (x0 x1 : Vec F S10000x256 .f32) (x2 x3 : Vec F S256x256 .f32) (x4 : Vec F S256 .f32) (E : Set ℕ) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (k2_pay1 x0 x2 x1 x3 x4)) -∗ K ⟨⟩))
      ⊢ wp frame (wpE (defs₀ (F := F)) Variants.none c none) E (cc2__mm_combine_body arg0 harg0 arg1 harg1 arg2 harg2 arg3 harg3 arg4 harg4 arg5 harg5) K := by
  simp only [cc2__mm_combine_body_eq_skeleton]; unfold cc2__mm_combine_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr; swap; · iexact H5
  ipureintro
  refine (View.read_writes_full arg5.view _ inb_S10000x256_S10000x256_0_0 _ []).trans ?_
  rw [View.readAt_full, View.readAt_full, View.readAt_full, View.readAt_full, View.readAt_full]

/-- The last layer's combination, 128 wide and without `tanh`. -/
theorem last_triple (c : Dev nD) (arg0 : Memref sig .tc .vmem S10000x256 .f32) (harg0 : arg0.IsWhole) (arg1 : Memref sig .tc .vmem S10000x256 .f32) (harg1 : arg1.IsWhole)
    (arg2 : Memref sig .tc .vmem S256x128 .f32) (harg2 : arg2.IsWhole) (arg3 : Memref sig .tc .vmem S256x128 .f32) (harg3 : arg3.IsWhole)
    (arg4 : Memref sig .tc .vmem S128 .f32) (harg4 : arg4.IsWhole) (arg5 : Memref sig .tc .vmem S10000x128 .f32) (harg5 : arg5.IsWhole)
    (x0 x1 : Vec F S10000x256 .f32) (x2 x3 : Vec F S256x128 .f32) (x4 : Vec F S128 .f32) (E : Set ℕ) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (k11_pay1 x0 x2 x1 x3 x4)) -∗ K ⟨⟩))
      ⊢ wp frame (wpE (defs₀ (F := F)) Variants.none c none) E (cc11__mm_combine_body arg0 harg0 arg1 harg1 arg2 harg2 arg3 harg3 arg4 harg4 arg5 harg5) K := by
  simp only [cc11__mm_combine_body_eq_skeleton]; unfold cc11__mm_combine_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr; swap; · iexact H5
  ipureintro
  refine (View.read_writes_full arg5.view _ inb_S10000x128_S10000x128_0_0 _ []).trans ?_
  rw [View.readAt_full, View.readAt_full, View.readAt_full, View.readAt_full, View.readAt_full]

end Cert.KernelIdeal.Sage

end
-- ==== Proof.Data.lean ====
/-
  The proof data of the kernel's twelve regions, each at the contents its region is entered with: what every window's staging
  buffer holds after a point, and the body's obligation there.
-/
module

public import proofs.«01_k».proof.Proof.Bodies

@[expose] public section

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

/-! ## Any region -/

/-- Window `w`'s block at point `t`, read off its array at the contents `V`. -/
abbrev iblk (cfg : Cfg sig Λ₀) (V : Valuation τ sig (Elt F)) (w : Fin cfg.W) (t : Fin cfg.N) :
    ((cfg.win w).xblock (cfg.grid.coords t)).Idx → Elt F (cfg.win w).elt :=
  ((cfg.win w).blk t).view.read (Elt F) (V (Proc.devRef .tc (Pipeline.arrRef cfg.spec w)))

/-- Proof data entered at the contents `V`, each window's buffer left at `after`: nothing owed, the generator's register and
    the scoped buffers no window stages passed through. -/
abbrev mkDat (cfg : Cfg sig Λ₀) (c : Dev nD) (V : Valuation τ sig (Elt F))
    (after : (w : Fin cfg.W) → Fin cfg.N → (cfg.win w).block.Idx → Elt F (cfg.win w).elt) :
    Dat τ (Elt F) Unit ℕ (UR sig nD τ) ℕ cfg c where
  A w := V (Proc.devRef .tc (Pipeline.arrRef cfg.spec w))
  after := after
  Φ _ := Pipeline.ΦA cfg.spec c
  q _ := fullShare
  owed _ := 0

/-- A block at block index zero that has its array's sizes reads the array's contents. -/
theorem iblk_whole (cfg : Cfg sig Λ₀) (V : Valuation τ sig (Elt F)) (w : Fin cfg.W) (t : Fin cfg.N)
    (h0 : ∀ a, (cfg.win w).index t a = 0) (G : ((cfg.win w).xblock (cfg.grid.coords t)).Idx → Elt F (cfg.win w).elt)
    (hG : ∀ y (j : (cfg.win w).shape.Idx), (∀ a, (j a : ℕ) = y a) →
      (cfg.win w).arr.view.read (Elt F) (V (Proc.devRef .tc (Pipeline.arrRef cfg.spec w))) j = G y) : iblk cfg V w t = G :=
  funext fun y => hG y (((cfg.win w).rect t).emb y) fun a => Pipeline.Window.rect_emb_val_of_index_zero _ t a (h0 a) y

/-- The dense layer's step among what the pipeline passes around it. -/
theorem relu_step (c : Dev nD) (P O : sProp 𝕄) (a0 : Memref sig .tc .vmem S10000x256 .f32) (h0 : a0.IsWhole) (a1 : Memref sig .tc .vmem S256x256 .f32) (h1 : a1.IsWhole)
    (a2 : Memref sig .tc .vmem S256 .f32) (h2 : a2.IsWhole) (a3 : Memref sig .tc .vmem S10000x256 .f32) (h3 : a3.IsWhole)
    (b0 b3 : Vec F S10000x256 .f32 → Vec F S10000x256 .f32) (b1 : Vec F S256x256 .f32 → Vec F S256x256 .f32) (b2 : Vec F S256 .f32 → Vec F S256 .f32)
    (x0 : Vec F S10000x256 .f32) (x1 : Vec F S256x256 .f32) (x2 : Vec F S256 .f32)
    (e0 : ∀ d, b0 d = x0) (e1 : ∀ d, b1 d = x1) (e2 : ∀ d, b2 d = x2) (z : Vec F S10000x256 .f32) (ez : k0_pay1 x0 x1 x2 = z) :
    iprop(P ∗ O ∗ (∃ d, owns (c : Thread nD τ) a0 fullShare (b0 d)) ∗ (∃ d, owns (c : Thread nD τ) a1 fullShare (b1 d))
        ∗ (∃ d, owns (c : Thread nD τ) a2 fullShare (b2 d)) ∗ (∃ d, owns (c : Thread nD τ) a3 fullShare (b3 d)))
      ⊢ wp frame (wpE (defs₀ (F := F)) Variants.none c none) Set.univ (cc0__mm_relu_body a0 h0 a1 h1 a2 h2 a3 h3) (fun _ =>
        iprop(P ∗ O ∗ owns (c : Thread nD τ) a0 fullShare x0 ∗ owns (c : Thread nD τ) a1 fullShare x1
          ∗ owns (c : Thread nD τ) a2 fullShare x2 ∗ owns (c : Thread nD τ) a3 fullShare z)) := by
  subst ez
  simp only [e0, e1, e2]
  iintro ⟨HP, HO, ⟨%d0, H0⟩, ⟨%d1, H1⟩, ⟨%d2, H2⟩, ⟨%d3, H3⟩⟩
  iapply (relu_triple c a0 h0 a1 h1 a2 h2 a3 h3 x0 x1 x2)
  isplitl [H0]; · iexact H0
  isplitl [H1]; · iexact H1
  isplitl [H2]; · iexact H2
  isplitl [H3]; · iexists _; iexact H3
  iintro ⟨H0, H1, H2, H3⟩
  isplitl [HP]; · iexact HP
  isplitl [HO]; · iexact HO
  isplitl [H0]; · iexact H0
  isplitl [H1]; · iexact H1
  isplitl [H2]; · iexact H2
  iexact H3

/-- The segment maximum's step among what the pipeline passes around it: `g` is what the result's buffer holds before, which
    matters only after the first point. -/
theorem seg_step (c : Dev nD) (P O : sProp 𝕄) (i : grid1.Coords) (a0 : Memref sig .tc .smem S2x1280 .i32) (h0 : a0.IsWhole)
    (a1 : Memref sig .tc .vmem S10000x256 .f32) (h1 : a1.IsWhole) (a2 : Memref sig .tc .vmem S10000x256 .f32) (h2 : a2.IsWhole)
    (b0 : Vec F S2x1280 .i32 → Vec F S2x1280 .i32) (b1 b2 : Vec F S10000x256 .f32 → Vec F S10000x256 .f32)
    (x0 : Vec F S2x1280 .i32) (x1 x2 : Vec F S10000x256 .f32) (hX : InRange x0)
    (e0 : ∀ d, b0 d = x0) (e1 : ∀ d, b1 d = x1) (e2 : ∀ d, segOut i x0 x1 (b2 d) = x2) :
    iprop(P ∗ O ∗ (∃ d, owns (c : Thread nD τ) a0 fullShare (b0 d)) ∗ (∃ d, owns (c : Thread nD τ) a1 fullShare (b1 d))
        ∗ (∃ d, owns (c : Thread nD τ) a2 fullShare (b2 d)))
      ⊢ wp frame (wpE (defs₀ (F := F)) Variants.none c none) Set.univ (cc1__segmax_body i a0 h0 a1 h1 a2 h2) (fun _ =>
        iprop(P ∗ O ∗ owns (c : Thread nD τ) a0 fullShare x0 ∗ owns (c : Thread nD τ) a1 fullShare x1
          ∗ owns (c : Thread nD τ) a2 fullShare x2)) := by
  simp only [e0, e1]
  iintro ⟨HP, HO, ⟨%d0, H0⟩, ⟨%d1, H1⟩, ⟨%d2, H2⟩⟩
  iapply (seg_triple c i a0 h0 a1 h1 a2 h2 x0 x1 (b2 d2) hX)
  rw [e2]
  isplitl [H0]; · iexact H0
  isplitl [H1]; · iexact H1
  isplitl [H2]; · iexact H2
  iintro ⟨H0, H1, H2⟩
  isplitl [HP]; · iexact HP
  isplitl [HO]; · iexact HO
  isplitl [H0]; · iexact H0
  isplitl [H1]; · iexact H1
  iexact H2

/-- The combination's step among what the pipeline passes around it. -/
theorem comb_step (c : Dev nD) (P O : sProp 𝕄) (a0 : Memref sig .tc .vmem S10000x256 .f32) (h0 : a0.IsWhole) (a1 : Memref sig .tc .vmem S10000x256 .f32) (h1 : a1.IsWhole)
    (a2 : Memref sig .tc .vmem S256x256 .f32) (h2 : a2.IsWhole) (a3 : Memref sig .tc .vmem S256x256 .f32) (h3 : a3.IsWhole)
    (a4 : Memref sig .tc .vmem S256 .f32) (h4 : a4.IsWhole) (a5 : Memref sig .tc .vmem S10000x256 .f32) (h5 : a5.IsWhole)
    (b0 b1 b5 : Vec F S10000x256 .f32 → Vec F S10000x256 .f32) (b2 b3 : Vec F S256x256 .f32 → Vec F S256x256 .f32) (b4 : Vec F S256 .f32 → Vec F S256 .f32)
    (x0 x1 : Vec F S10000x256 .f32) (x2 x3 : Vec F S256x256 .f32) (x4 : Vec F S256 .f32)
    (e0 : ∀ d, b0 d = x0) (e1 : ∀ d, b1 d = x1) (e2 : ∀ d, b2 d = x2) (e3 : ∀ d, b3 d = x3) (e4 : ∀ d, b4 d = x4) (z : Vec F S10000x256 .f32) (ez : k2_pay1 x0 x2 x1 x3 x4 = z) :
    iprop(P ∗ O ∗ (∃ d, owns (c : Thread nD τ) a0 fullShare (b0 d)) ∗ (∃ d, owns (c : Thread nD τ) a1 fullShare (b1 d))
        ∗ (∃ d, owns (c : Thread nD τ) a2 fullShare (b2 d)) ∗ (∃ d, owns (c : Thread nD τ) a3 fullShare (b3 d))
        ∗ (∃ d, owns (c : Thread nD τ) a4 fullShare (b4 d)) ∗ (∃ d, owns (c : Thread nD τ) a5 fullShare (b5 d)))
      ⊢ wp frame (wpE (defs₀ (F := F)) Variants.none c none) Set.univ (cc2__mm_combine_body a0 h0 a1 h1 a2 h2 a3 h3 a4 h4 a5 h5) (fun _ =>
        iprop(P ∗ O ∗ owns (c : Thread nD τ) a0 fullShare x0 ∗ owns (c : Thread nD τ) a1 fullShare x1
          ∗ owns (c : Thread nD τ) a2 fullShare x2 ∗ owns (c : Thread nD τ) a3 fullShare x3
          ∗ owns (c : Thread nD τ) a4 fullShare x4 ∗ owns (c : Thread nD τ) a5 fullShare z)) := by
  subst ez
  simp only [e0, e1, e2, e3, e4]
  iintro ⟨HP, HO, ⟨%d0, H0⟩, ⟨%d1, H1⟩, ⟨%d2, H2⟩, ⟨%d3, H3⟩, ⟨%d4, H4⟩, ⟨%d5, H5⟩⟩
  iapply (comb_triple c a0 h0 a1 h1 a2 h2 a3 h3 a4 h4 a5 h5 x0 x1 x2 x3 x4)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HP]; · iexact HP
  isplitl [HO]; · iexact HO
  isplitl [H0]; · iexact H0
  isplitl [H1]; · iexact H1
  isplitl [H2]; · iexact H2
  isplitl [H3]; · iexact H3
  isplitl [H4]; · iexact H4
  iexact H5

/-- The last layer's combination, 128 wide and without `tanh`, among what the pipeline passes around it. -/
theorem last_step (c : Dev nD) (P O : sProp 𝕄) (a0 : Memref sig .tc .vmem S10000x256 .f32) (h0 : a0.IsWhole) (a1 : Memref sig .tc .vmem S10000x256 .f32) (h1 : a1.IsWhole)
    (a2 : Memref sig .tc .vmem S256x128 .f32) (h2 : a2.IsWhole) (a3 : Memref sig .tc .vmem S256x128 .f32) (h3 : a3.IsWhole)
    (a4 : Memref sig .tc .vmem S128 .f32) (h4 : a4.IsWhole) (a5 : Memref sig .tc .vmem S10000x128 .f32) (h5 : a5.IsWhole)
    (b0 b1 : Vec F S10000x256 .f32 → Vec F S10000x256 .f32) (b5 : Vec F S10000x128 .f32 → Vec F S10000x128 .f32) (b2 b3 : Vec F S256x128 .f32 → Vec F S256x128 .f32) (b4 : Vec F S128 .f32 → Vec F S128 .f32)
    (x0 x1 : Vec F S10000x256 .f32) (x2 x3 : Vec F S256x128 .f32) (x4 : Vec F S128 .f32)
    (e0 : ∀ d, b0 d = x0) (e1 : ∀ d, b1 d = x1) (e2 : ∀ d, b2 d = x2) (e3 : ∀ d, b3 d = x3) (e4 : ∀ d, b4 d = x4) (z : Vec F S10000x128 .f32) (ez : k11_pay1 x0 x2 x1 x3 x4 = z) :
    iprop(P ∗ O ∗ (∃ d, owns (c : Thread nD τ) a0 fullShare (b0 d)) ∗ (∃ d, owns (c : Thread nD τ) a1 fullShare (b1 d))
        ∗ (∃ d, owns (c : Thread nD τ) a2 fullShare (b2 d)) ∗ (∃ d, owns (c : Thread nD τ) a3 fullShare (b3 d))
        ∗ (∃ d, owns (c : Thread nD τ) a4 fullShare (b4 d)) ∗ (∃ d, owns (c : Thread nD τ) a5 fullShare (b5 d)))
      ⊢ wp frame (wpE (defs₀ (F := F)) Variants.none c none) Set.univ (cc11__mm_combine_body a0 h0 a1 h1 a2 h2 a3 h3 a4 h4 a5 h5) (fun _ =>
        iprop(P ∗ O ∗ owns (c : Thread nD τ) a0 fullShare x0 ∗ owns (c : Thread nD τ) a1 fullShare x1
          ∗ owns (c : Thread nD τ) a2 fullShare x2 ∗ owns (c : Thread nD τ) a3 fullShare x3
          ∗ owns (c : Thread nD τ) a4 fullShare x4 ∗ owns (c : Thread nD τ) a5 fullShare z)) := by
  subst ez
  simp only [e0, e1, e2, e3, e4]
  iintro ⟨HP, HO, ⟨%d0, H0⟩, ⟨%d1, H1⟩, ⟨%d2, H2⟩, ⟨%d3, H3⟩, ⟨%d4, H4⟩, ⟨%d5, H5⟩⟩
  iapply (last_triple c a0 h0 a1 h1 a2 h2 a3 h3 a4 h4 a5 h5 x0 x1 x2 x3 x4)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HP]; · iexact HP
  isplitl [HO]; · iexact HO
  isplitl [H0]; · iexact H0
  isplitl [H1]; · iexact H1
  isplitl [H2]; · iexact H2
  isplitl [H3]; · iexact H3
  isplitl [H4]; · iexact H4
  iexact H5

/-! ## The later layers' bodies

A later layer's body differs from the first one's by a shape cast of its operand to the shape it has. -/

/-- The second layer's dense payload is the first one's. -/
theorem k3_eq : k3_pay1 (F := F) = k0_pay1 (F := F) := by
  funext v0 v2 v4; unfold k3_pay1 k0_pay1; rw [shapeCast_self v0]

/-- The second layer's combination payload is the first one's. -/
theorem k5_eq : k5_pay1 (F := F) = k2_pay1 (F := F) := by
  funext v0 v2 v4 v6 v9; unfold k5_pay1 k2_pay1; rw [shapeCast_self v0]

theorem cc3_eq : cc3__mm_relu_body (F := F) = cc0__mm_relu_body (F := F) := by
  simp only [cc3__mm_relu_body_eq_skeleton, cc0__mm_relu_body_eq_skeleton]
  unfold cc3__mm_relu_body_skel cc0__mm_relu_body_skel; rw [k3_eq]
theorem cc6_eq : cc6__mm_relu_body (F := F) = cc0__mm_relu_body (F := F) := Eq.trans (b := cc3__mm_relu_body (F := F)) rfl cc3_eq
theorem cc9_eq : cc9__mm_relu_body (F := F) = cc0__mm_relu_body (F := F) := Eq.trans (b := cc3__mm_relu_body (F := F)) rfl cc3_eq
theorem cc5_eq : cc5__mm_combine_body (F := F) = cc2__mm_combine_body (F := F) := by
  simp only [cc5__mm_combine_body_eq_skeleton, cc2__mm_combine_body_eq_skeleton]
  unfold cc5__mm_combine_body_skel cc2__mm_combine_body_skel; rw [k5_eq]
theorem cc8_eq : cc8__mm_combine_body (F := F) = cc2__mm_combine_body (F := F) := Eq.trans (b := cc5__mm_combine_body (F := F)) rfl cc5_eq
theorem cc4_eq : cc4__segmax_body (F := F) = cc1__segmax_body (F := F) := rfl
theorem cc7_eq : cc7__segmax_body (F := F) = cc1__segmax_body (F := F) := rfl
theorem cc10_eq : cc10__segmax_body (F := F) = cc1__segmax_body (F := F) := rfl

end Cert.KernelIdeal.Sage

end
-- ==== Proof.Launches.lean ====
/-
  The twelve regions' proof data at the contents each is entered with, and their body obligations.
-/
module

public import proofs.«01_k».proof.Proof.Data

@[expose] public section

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

/-! ## The segment maximum over the points -/

/-- The place at row `r`, column `k` of the array of edges. -/
def edgesAt (r : Fin 2) (k : Fin 160000) : S2x160000.Idx := fun | ⟨0, _⟩ => r | ⟨1, _⟩ => k

/-- Block `n` of the edges: 1280 columns from column `1280 n`. -/
def edgeBlk (E : Vec F S2x160000 .i32) (n : ℕ) : Vec F S2x1280 .i32 :=
  fun y => E (edgesAt (y 0) ⟨(1280 * n + (y 1).val) % 160000, Nat.mod_lt _ (by omega)⟩)

/-- An element of the edges is one of block `n` when its column is the block's, shifted by `1280 n`. -/
theorem edge_eq (E : Vec F S2x160000 .i32) (n : ℕ) (hn : n < 125) (y : S2x1280.Idx) (j : S2x160000.Idx)
    (h0 : (j 0).val = (y 0).val) (h1 : (j 1).val = n * 1280 + (y 1).val) : E j = edgeBlk E n y :=
  congrArg E <| funext fun a => by
    have hy : (y 1).val < 1280 := (y 1).isLt
    fin_cases a
    · exact Fin.ext h0
    · exact Fin.ext (h1.trans (by show _ = (1280 * n + (y 1).val) % 160000; omega))

/-- The maxima after point `n`: the blocks up to `n` folded into zeros. -/
def segAcc (E : Vec F S2x160000 .i32) (m : Vec F S10000x256 .f32) : ℕ → Vec F S10000x256 .f32
  | 0 => blockFold m (edgeBlk E 0) k1_pay1 1280
  | n + 1 => blockFold m (edgeBlk E (n + 1)) (segAcc E m n) 1280

/-- One step of the recursion, as the body does it at a point: from anything at the first one. -/
theorem segOut_acc (E : Vec F S2x160000 .i32) (m : Vec F S10000x256 .f32) (t : Fin grid1.N) (g : Vec F S10000x256 .f32)
    (hg : t.val ≠ 0 → g = segAcc E m (t.val - 1)) :
    segOut (grid1.coords t) (edgeBlk E t.val) m g = segAcc E m t.val := by
  have hN : t.val < 125 := t.isLt.trans_eq N_1
  by_cases h0 : t.val = 0
  · rw [segOut, if_pos ((atFirst_iff t).2 (by omega)), h0, segAcc]
  · rw [segOut, if_neg (fun h => h0 (by have := (atFirst_iff t).1 h; omega)), hg h0]
    obtain ⟨n, hn⟩ := Nat.exists_eq_succ_of_ne_zero h0
    rw [hn, segAcc]; rfl

/-! ## Region 0 -/

/-- What region 0's staging buffers hold after its point. -/
def after0 (V : Valuation τ sig (Elt F)) (w : Fin cfg0.W) (t : Fin cfg0.N) : (cfg0.win w).block.Idx → Elt F (cfg0.win w).elt :=
  match w with
  | ⟨0, _⟩ => iblk cfg0 V 0 t
  | ⟨1, _⟩ => iblk cfg0 V 1 t
  | ⟨2, _⟩ => iblk cfg0 V 2 t
  | ⟨3, _⟩ => k0_pay1 (V main_arg0) (V main_arg2) (V main_arg3)

abbrev dat0 (V : Valuation τ sig (Elt F)) (c : Dev nD) := mkDat cfg0 c V (after0 V)

/-- Region 0's body obligation. -/
theorem body0 (V : Valuation τ sig (Elt F)) (c : Dev nD) : BodyObligation (dat0 V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  have e0 : iblk cfg0 V 0 t = V main_arg0 := iblk_whole cfg0 V 0 t (fun _ => rfl) _ fun y j h => congrArg (V main_arg0) (funext fun a => Fin.ext (h a))
  have e1 : iblk cfg0 V 1 t = V main_arg2 := iblk_whole cfg0 V 1 t (fun _ => rfl) _ fun y j h => congrArg (V main_arg2) (funext fun a => Fin.ext (h a))
  have e2 : iblk cfg0 V 2 t = V main_arg3 := iblk_whole cfg0 V 2 t (fun _ => rfl) _ fun y j h => congrArg (V main_arg3) (funext fun a => Fin.ext (h a))
  exact triple_restated (relu_step c ((dat0 V c).Φ t.castSucc) ((dat0 V c).owesAt () t.castSucc) _ _ _ _ _ _ _ _
    (fun d => (dat0 V c).before 0 t d) (fun d => (dat0 V c).before 3 t d) (fun d => (dat0 V c).before 1 t d) (fun d => (dat0 V c).before 2 t d)
    (iblk cfg0 V 0 t) (iblk cfg0 V 1 t) (iblk cfg0 V 2 t)
    (fun d => (dat0 V c).before_in_eq_fetched 0 rfl (fun _ => rfl) (fun _ _ _ => rfl) (fun t => rfl) t d)
    (fun d => (dat0 V c).before_in_eq_fetched 1 rfl (fun _ => rfl) (fun _ _ _ => rfl) (fun t => rfl) t d)
    (fun d => (dat0 V c).before_in_eq_fetched 2 rfl (fun _ => rfl) (fun _ _ _ => rfl) (fun t => rfl) t d)
    (k0_pay1 (V main_arg0) (V main_arg2) (V main_arg3)) (by rw [e0, e1, e2])) rfl .rfl fun _ => .rfl

/-! ## Region 1 -/

/-- What region 1's staging buffers hold after a point. -/
def after1 (V : Valuation τ sig (Elt F)) (w : Fin cfg1.W) (t : Fin cfg1.N) : (cfg1.win w).block.Idx → Elt F (cfg1.win w).elt :=
  match w with
  | ⟨0, _⟩ => iblk cfg1 V 0 t
  | ⟨1, _⟩ => iblk cfg1 V 1 t
  | ⟨2, _⟩ => segAcc (V main_arg1) (V main_v0) t.val

abbrev dat1 (V : Valuation τ sig (Elt F)) (c : Dev nD) := mkDat cfg1 c V (after1 V)

/-- Point `t`'s block of edges is block `t`. -/
theorem edges1 (V : Valuation τ sig (Elt F)) (t : Fin cfg1.N) : iblk cfg1 V 0 t = edgeBlk (V main_arg1) t.val := by
  have hi : ∀ t : Fin grid1.N, win1_0.index t 0 = 0 ∧ win1_0.index t 1 = t.val := by decide +kernel
  exact funext fun y => edge_eq (V main_arg1) t.val (t.isLt.trans_eq N_1) y ((win1_0.rect t).emb y)
    ((Pipeline.Window.rect_emb_val win1_0 t y 0).trans (by rw [(hi t).1]; exact Nat.zero_add _))
    ((Pipeline.Window.rect_emb_val win1_0 t y 1).trans (by rw [(hi t).2]; rfl))

/-- Region 1's body obligation. -/
theorem body1 (V : Valuation τ sig (Elt F)) (hE : ∀ y, BitVec.toNat (w := 32) (V main_arg1 y) < 10000) (c : Dev nD) :
    BodyObligation (dat1 V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  have e0 := edges1 V t
  have e1 : iblk cfg1 V 1 t = V main_v0 := iblk_whole cfg1 V 1 t (fun a => by fin_cases a <;> rfl) _ fun y j h => congrArg (V main_v0) (funext fun a => Fin.ext (h a))
  exact triple_restated (seg_step c ((dat1 V c).Φ t.castSucc) ((dat1 V c).owesAt () t.castSucc) (grid1.coords t) _ _ _ _ _ _
    (fun d => (dat1 V c).before 0 t d) (fun d => (dat1 V c).before 1 t d) (fun d => (dat1 V c).before 2 t d)
    (iblk cfg1 V 0 t) (iblk cfg1 V 1 t) (segAcc (V main_arg1) (V main_v0) t.val) (by rw [e0]; exact fun y => hE _)
    (fun d => (dat1 V c).before_in_eq_fetched 0 rfl (fun _ => rfl) (fun _ _ _ => rfl) (fun t => rfl) t d)
    (fun d => (dat1 V c).before_in_eq_fetched 1 rfl (fun _ => rfl) (fun _ _ _ => rfl) (fun t => rfl) t d)
    (fun d => by
      rw [e0, e1]
      exact segOut_acc _ _ t _ fun h0 => (dat1 V c).before_out_kept 2 rfl t h0
        (Bool.eq_false_iff.mpr fun h => by
          have h1 := (flush1_2 _).1 h; have h2 := t.isLt; change t.val < grid1.N at h2; rw [N_1] at h2; dsimp only at h1; omega)
        (fun _ => rfl) (fun _ _ => rfl) d)) rfl .rfl fun _ => .rfl

/-! ## Region 2 -/

/-- What region 2's staging buffers hold after its point. -/
def after2 (V : Valuation τ sig (Elt F)) (w : Fin cfg2.W) (t : Fin cfg2.N) : (cfg2.win w).block.Idx → Elt F (cfg2.win w).elt :=
  match w with
  | ⟨0, _⟩ => iblk cfg2 V 0 t
  | ⟨1, _⟩ => iblk cfg2 V 1 t
  | ⟨2, _⟩ => iblk cfg2 V 2 t
  | ⟨3, _⟩ => iblk cfg2 V 3 t
  | ⟨4, _⟩ => iblk cfg2 V 4 t
  | ⟨5, _⟩ => k2_pay1 (V main_arg0) (V main_arg4) (V main_v1) (V main_arg5) (V main_arg6)

abbrev dat2 (V : Valuation τ sig (Elt F)) (c : Dev nD) := mkDat cfg2 c V (after2 V)

/-- Region 2's body obligation. -/
theorem body2 (V : Valuation τ sig (Elt F)) (c : Dev nD) : BodyObligation (dat2 V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  have e0 : iblk cfg2 V 0 t = V main_arg0 := iblk_whole cfg2 V 0 t (fun _ => rfl) _ fun y j h => congrArg (V main_arg0) (funext fun a => Fin.ext (h a))
  have e1 : iblk cfg2 V 1 t = V main_v1 := iblk_whole cfg2 V 1 t (fun _ => rfl) _ fun y j h => congrArg (V main_v1) (funext fun a => Fin.ext (h a))
  have e2 : iblk cfg2 V 2 t = V main_arg4 := iblk_whole cfg2 V 2 t (fun _ => rfl) _ fun y j h => congrArg (V main_arg4) (funext fun a => Fin.ext (h a))
  have e3 : iblk cfg2 V 3 t = V main_arg5 := iblk_whole cfg2 V 3 t (fun _ => rfl) _ fun y j h => congrArg (V main_arg5) (funext fun a => Fin.ext (h a))
  have e4 : iblk cfg2 V 4 t = V main_arg6 := iblk_whole cfg2 V 4 t (fun _ => rfl) _ fun y j h => congrArg (V main_arg6) (funext fun a => Fin.ext (h a))
  exact triple_restated (comb_step c ((dat2 V c).Φ t.castSucc) ((dat2 V c).owesAt () t.castSucc) _ _ _ _ _ _ _ _ _ _ _ _
    (fun d => (dat2 V c).before 0 t d) (fun d => (dat2 V c).before 1 t d) (fun d => (dat2 V c).before 5 t d) (fun d => (dat2 V c).before 2 t d) (fun d => (dat2 V c).before 3 t d) (fun d => (dat2 V c).before 4 t d)
    (iblk cfg2 V 0 t) (iblk cfg2 V 1 t) (iblk cfg2 V 2 t) (iblk cfg2 V 3 t) (iblk cfg2 V 4 t)
    (fun d => (dat2 V c).before_in_eq_fetched 0 rfl (fun _ => rfl) (fun _ _ _ => rfl) (fun t => rfl) t d)
    (fun d => (dat2 V c).before_in_eq_fetched 1 rfl (fun _ => rfl) (fun _ _ _ => rfl) (fun t => rfl) t d)
    (fun d => (dat2 V c).before_in_eq_fetched 2 rfl (fun _ => rfl) (fun _ _ _ => rfl) (fun t => rfl) t d)
    (fun d => (dat2 V c).before_in_eq_fetched 3 rfl (fun _ => rfl) (fun _ _ _ => rfl) (fun t => rfl) t d)
    (fun d => (dat2 V c).before_in_eq_fetched 4 rfl (fun _ => rfl) (fun _ _ _ => rfl) (fun t => rfl) t d)
    (k2_pay1 (V main_arg0) (V main_arg4) (V main_v1) (V main_arg5) (V main_arg6)) (by rw [e0, e1, e2, e3, e4])) rfl .rfl fun _ => .rfl

/-! ## Region 3 -/

/-- What region 3's staging buffers hold after its point. -/
def after3 (V : Valuation τ sig (Elt F)) (w : Fin cfg3.W) (t : Fin cfg3.N) : (cfg3.win w).block.Idx → Elt F (cfg3.win w).elt :=
  match w with
  | ⟨0, _⟩ => iblk cfg3 V 0 t
  | ⟨1, _⟩ => iblk cfg3 V 1 t
  | ⟨2, _⟩ => iblk cfg3 V 2 t
  | ⟨3, _⟩ => k0_pay1 (V main_v2) (V main_arg7) (V main_arg8)

abbrev dat3 (V : Valuation τ sig (Elt F)) (c : Dev nD) := mkDat cfg3 c V (after3 V)

/-- Region 3's body obligation. -/
theorem body3 (V : Valuation τ sig (Elt F)) (c : Dev nD) : BodyObligation (dat3 V c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc], bodyAt3, cc3_eq]
  have e0 : iblk cfg3 V 0 t = V main_v2 := iblk_whole cfg3 V 0 t (fun _ => rfl) _ fun y j h => congrArg (V main_v2) (funext fun a => Fin.ext (h a))
  have e1 : iblk cfg3 V 1 t = V main_arg7 := iblk_whole cfg3 V 1 t (fun _ => rfl) _ fun y j h => congrArg (V main_arg7) (funext fun a => Fin.ext (h a))
  have e2 : iblk cfg3 V 2 t = V main_arg8 := iblk_whole cfg3 V 2 t (fun _ => rfl) _ fun y j h => congrArg (V main_arg8) (funext fun a => Fin.ext (h a))
  exact triple_restated (relu_step c ((dat3 V c).Φ t.castSucc) ((dat3 V c).owesAt () t.castSucc) _ _ _ _ _ _ _ _
    (fun d => (dat3 V c).before 0 t d) (fun d => (dat3 V c).before 3 t d) (fun d => (dat3 V c).before 1 t d) (fun d => (dat3 V c).before 2 t d)
    (iblk cfg3 V 0 t) (iblk cfg3 V 1 t) (iblk cfg3 V 2 t)
    (fun d => (dat3 V c).before_in_eq_fetched 0 rfl (fun _ => rfl) (fun _ _ _ => rfl) (fun t => rfl) t d)
    (fun d => (dat3 V c).before_in_eq_fetched 1 rfl (fun _ => rfl) (fun _ _ _ => rfl) (fun t => rfl) t d)
    (fun d => (dat3 V c).before_in_eq_fetched 2 rfl (fun _ => rfl) (fun _ _ _ => rfl) (fun t => rfl) t d)
    (k0_pay1 (V main_v2) (V main_arg7) (V main_arg8)) (by rw [e0, e1, e2])) rfl .rfl fun _ => .rfl

/-! ## Region 4 -/

/-- What region 4's staging buffers hold after a point. -/
def after4 (V : Valuation τ sig (Elt F)) (w : Fin cfg4.W) (t : Fin cfg4.N) : (cfg4.win w).block.Idx → Elt F (cfg4.win w).elt :=
  match w with
  | ⟨0, _⟩ => iblk cfg4 V 0 t
  | ⟨1, _⟩ => iblk cfg4 V 1 t
  | ⟨2, _⟩ => segAcc (V main_arg1) (V main_v3) t.val

abbrev dat4 (V : Valuation τ sig (Elt F)) (c : Dev nD) := mkDat cfg4 c V (after4 V)

/-- Point `t`'s block of edges is block `t`. -/
theorem edges4 (V : Valuation τ sig (Elt F)) (t : Fin cfg4.N) : iblk cfg4 V 0 t = edgeBlk (V main_arg1) t.val := by
  have hi : ∀ t : Fin grid4.N, win4_0.index t 0 = 0 ∧ win4_0.index t 1 = t.val := by decide +kernel
  exact funext fun y => edge_eq (V main_arg1) t.val (t.isLt.trans_eq N_4) y ((win4_0.rect t).emb y)
    ((Pipeline.Window.rect_emb_val win4_0 t y 0).trans (by rw [(hi t).1]; exact Nat.zero_add _))
    ((Pipeline.Window.rect_emb_val win4_0 t y 1).trans (by rw [(hi t).2]; rfl))

/-- Region 4's body obligation. -/
theorem body4 (V : Valuation τ sig (Elt F)) (hE : ∀ y, BitVec.toNat (w := 32) (V main_arg1 y) < 10000) (c : Dev nD) :
    BodyObligation (dat4 V c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  have e0 := edges4 V t
  have e1 : iblk cfg4 V 1 t = V main_v3 := iblk_whole cfg4 V 1 t (fun a => by fin_cases a <;> rfl) _ fun y j h => congrArg (V main_v3) (funext fun a => Fin.ext (h a))
  exact triple_restated (seg_step c ((dat4 V c).Φ t.castSucc) ((dat4 V c).owesAt () t.castSucc) (grid1.coords t) _ (hstage4_0 ((cfg4.slots t 0).cast nbuf4_0)) _ (hstage4_1 ((cfg4.slots t 1).cast nbuf4_1)) _ (hstage4_2 ((cfg4.slots t 2).cast nbuf4_2))
    (fun d => (dat4 V c).before 0 t d) (fun d => (dat4 V c).before 1 t d) (fun d => (dat4 V c).before 2 t d)
    (iblk cfg4 V 0 t) (iblk cfg4 V 1 t) (segAcc (V main_arg1) (V main_v3) t.val) (by rw [e0]; exact fun y => hE _)
    (fun d => (dat4 V c).before_in_eq_fetched 0 rfl (fun _ => rfl) (fun _ _ _ => rfl) (fun t => rfl) t d)
    (fun d => (dat4 V c).before_in_eq_fetched 1 rfl (fun _ => rfl) (fun _ _ _ => rfl) (fun t => rfl) t d)
    (fun d => by
      rw [e0, e1]
      exact segOut_acc _ _ t _ fun h0 => (dat4 V c).before_out_kept 2 rfl t h0
        (Bool.eq_false_iff.mpr fun h => by
          have h1 := (flush4_2 _).1 h; have h2 := t.isLt; change t.val < grid4.N at h2; rw [N_4] at h2; dsimp only at h1; omega)
        (fun _ => rfl) (fun _ _ => rfl) d)) rfl .rfl fun _ => .rfl

/-! ## Region 5 -/

/-- What region 5's staging buffers hold after its point. -/
def after5 (V : Valuation τ sig (Elt F)) (w : Fin cfg5.W) (t : Fin cfg5.N) : (cfg5.win w).block.Idx → Elt F (cfg5.win w).elt :=
  match w with
  | ⟨0, _⟩ => iblk cfg5 V 0 t
  | ⟨1, _⟩ => iblk cfg5 V 1 t
  | ⟨2, _⟩ => iblk cfg5 V 2 t
  | ⟨3, _⟩ => iblk cfg5 V 3 t
  | ⟨4, _⟩ => iblk cfg5 V 4 t
  | ⟨5, _⟩ => k2_pay1 (V main_v2) (V main_arg9) (V main_v4) (V main_arg10) (V main_arg11)

abbrev dat5 (V : Valuation τ sig (Elt F)) (c : Dev nD) := mkDat cfg5 c V (after5 V)

/-- Region 5's body obligation. -/
theorem body5 (V : Valuation τ sig (Elt F)) (c : Dev nD) : BodyObligation (dat5 V c) (defs₀ (F := F)) Variants.none () Set.univ := fun t => by
  rw [bigSep_W5, bigSep_W5, show defs₀ (F := F) .tc cfg5.body (cfg5.bodyArgs t (cfg5.slots t)) = bodyAt5 t from by unfold defs₀; rw [Defs.onTc_tc], bodyAt5, cc5_eq]
  have e0 : iblk cfg5 V 0 t = V main_v2 := iblk_whole cfg5 V 0 t (fun _ => rfl) _ fun y j h => congrArg (V main_v2) (funext fun a => Fin.ext (h a))
  have e1 : iblk cfg5 V 1 t = V main_v4 := iblk_whole cfg5 V 1 t (fun _ => rfl) _ fun y j h => congrArg (V main_v4) (funext fun a => Fin.ext (h a))
  have e2 : iblk cfg5 V 2 t = V main_arg9 := iblk_whole cfg5 V 2 t (fun _ => rfl) _ fun y j h => congrArg (V main_arg9) (funext fun a => Fin.ext (h a))
  have e3 : iblk cfg5 V 3 t = V main_arg10 := iblk_whole cfg5 V 3 t (fun _ => rfl) _ fun y j h => congrArg (V main_arg10) (funext fun a => Fin.ext (h a))
  have e4 : iblk cfg5 V 4 t = V main_arg11 := iblk_whole cfg5 V 4 t (fun _ => rfl) _ fun y j h => congrArg (V main_arg11) (funext fun a => Fin.ext (h a))
  exact triple_restated (comb_step c ((dat5 V c).Φ t.castSucc) ((dat5 V c).owesAt () t.castSucc) _ _ _ _ _ _ _ _ _ _ _ _
    (fun d => (dat5 V c).before 0 t d) (fun d => (dat5 V c).before 1 t d) (fun d => (dat5 V c).before 5 t d) (fun d => (dat5 V c).before 2 t d) (fun d => (dat5 V c).before 3 t d) (fun d => (dat5 V c).before 4 t d)
    (iblk cfg5 V 0 t) (iblk cfg5 V 1 t) (iblk cfg5 V 2 t) (iblk cfg5 V 3 t) (iblk cfg5 V 4 t)
    (fun d => (dat5 V c).before_in_eq_fetched 0 rfl (fun _ => rfl) (fun _ _ _ => rfl) (fun t => rfl) t d)
    (fun d => (dat5 V c).before_in_eq_fetched 1 rfl (fun _ => rfl) (fun _ _ _ => rfl) (fun t => rfl) t d)
    (fun d => (dat5 V c).before_in_eq_fetched 2 rfl (fun _ => rfl) (fun _ _ _ => rfl) (fun t => rfl) t d)
    (fun d => (dat5 V c).before_in_eq_fetched 3 rfl (fun _ => rfl) (fun _ _ _ => rfl) (fun t => rfl) t d)
    (fun d => (dat5 V c).before_in_eq_fetched 4 rfl (fun _ => rfl) (fun _ _ _ => rfl) (fun t => rfl) t d)
    (k2_pay1 (V main_v2) (V main_arg9) (V main_v4) (V main_arg10) (V main_arg11)) (by rw [e0, e1, e2, e3, e4])) rfl .rfl fun _ => .rfl

/-! ## Region 6 -/

/-- What region 6's staging buffers hold after its point. -/
def after6 (V : Valuation τ sig (Elt F)) (w : Fin cfg6.W) (t : Fin cfg6.N) : (cfg6.win w).block.Idx → Elt F (cfg6.win w).elt :=
  match w with
  | ⟨0, _⟩ => iblk cfg6 V 0 t
  | ⟨1, _⟩ => iblk cfg6 V 1 t
  | ⟨2, _⟩ => iblk cfg6 V 2 t
  | ⟨3, _⟩ => k0_pay1 (V main_v5) (V main_arg7) (V main_arg8)

abbrev dat6 (V : Valuation τ sig (Elt F)) (c : Dev nD) := mkDat cfg6 c V (after6 V)

/-- Region 6's body obligation. -/
theorem body6 (V : Valuation τ sig (Elt F)) (c : Dev nD) : BodyObligation (dat6 V c) (defs₀ (F := F)) Variants.none () Set.univ := fun t => by
  rw [bigSep_W6, bigSep_W6, show defs₀ (F := F) .tc cfg6.body (cfg6.bodyArgs t (cfg6.slots t)) = bodyAt6 t from by unfold defs₀; rw [Defs.onTc_tc], bodyAt6, cc6_eq]
  have e0 : iblk cfg6 V 0 t = V main_v5 := iblk_whole cfg6 V 0 t (fun _ => rfl) _ fun y j h => congrArg (V main_v5) (funext fun a => Fin.ext (h a))
  have e1 : iblk cfg6 V 1 t = V main_arg7 := iblk_whole cfg6 V 1 t (fun _ => rfl) _ fun y j h => congrArg (V main_arg7) (funext fun a => Fin.ext (h a))
  have e2 : iblk cfg6 V 2 t = V main_arg8 := iblk_whole cfg6 V 2 t (fun _ => rfl) _ fun y j h => congrArg (V main_arg8) (funext fun a => Fin.ext (h a))
  exact triple_restated (relu_step c ((dat6 V c).Φ t.castSucc) ((dat6 V c).owesAt () t.castSucc) _ _ _ _ _ _ _ _
    (fun d => (dat6 V c).before 0 t d) (fun d => (dat6 V c).before 3 t d) (fun d => (dat6 V c).before 1 t d) (fun d => (dat6 V c).before 2 t d)
    (iblk cfg6 V 0 t) (iblk cfg6 V 1 t) (iblk cfg6 V 2 t)
    (fun d => (dat6 V c).before_in_eq_fetched 0 rfl (fun _ => rfl) (fun _ _ _ => rfl) (fun t => rfl) t d)
    (fun d => (dat6 V c).before_in_eq_fetched 1 rfl (fun _ => rfl) (fun _ _ _ => rfl) (fun t => rfl) t d)
    (fun d => (dat6 V c).before_in_eq_fetched 2 rfl (fun _ => rfl) (fun _ _ _ => rfl) (fun t => rfl) t d)
    (k0_pay1 (V main_v5) (V main_arg7) (V main_arg8)) (by rw [e0, e1, e2])) rfl .rfl fun _ => .rfl

/-! ## Region 7 -/

/-- What region 7's staging buffers hold after a point. -/
def after7 (V : Valuation τ sig (Elt F)) (w : Fin cfg7.W) (t : Fin cfg7.N) : (cfg7.win w).block.Idx → Elt F (cfg7.win w).elt :=
  match w with
  | ⟨0, _⟩ => iblk cfg7 V 0 t
  | ⟨1, _⟩ => iblk cfg7 V 1 t
  | ⟨2, _⟩ => segAcc (V main_arg1) (V main_v6) t.val

abbrev dat7 (V : Valuation τ sig (Elt F)) (c : Dev nD) := mkDat cfg7 c V (after7 V)

/-- Point `t`'s block of edges is block `t`. -/
theorem edges7 (V : Valuation τ sig (Elt F)) (t : Fin cfg7.N) : iblk cfg7 V 0 t = edgeBlk (V main_arg1) t.val := by
  have hi : ∀ t : Fin grid7.N, win7_0.index t 0 = 0 ∧ win7_0.index t 1 = t.val := by decide +kernel
  exact funext fun y => edge_eq (V main_arg1) t.val (t.isLt.trans_eq N_7) y ((win7_0.rect t).emb y)
    ((Pipeline.Window.rect_emb_val win7_0 t y 0).trans (by rw [(hi t).1]; exact Nat.zero_add _))
    ((Pipeline.Window.rect_emb_val win7_0 t y 1).trans (by rw [(hi t).2]; rfl))

/-- Region 7's body obligation. -/
theorem body7 (V : Valuation τ sig (Elt F)) (hE : ∀ y, BitVec.toNat (w := 32) (V main_arg1 y) < 10000) (c : Dev nD) :
    BodyObligation (dat7 V c) (defs₀ (F := F)) Variants.none () Set.univ := fun t => by
  rw [bigSep_W7, bigSep_W7, show defs₀ (F := F) .tc cfg7.body (cfg7.bodyArgs t (cfg7.slots t)) = bodyAt7 t from by unfold defs₀; rw [Defs.onTc_tc]]
  have e0 := edges7 V t
  have e1 : iblk cfg7 V 1 t = V main_v6 := iblk_whole cfg7 V 1 t (fun a => by fin_cases a <;> rfl) _ fun y j h => congrArg (V main_v6) (funext fun a => Fin.ext (h a))
  exact triple_restated (seg_step c ((dat7 V c).Φ t.castSucc) ((dat7 V c).owesAt () t.castSucc) (grid1.coords t) _ (hstage7_0 ((cfg7.slots t 0).cast nbuf7_0)) _ (hstage7_1 ((cfg7.slots t 1).cast nbuf7_1)) _ (hstage7_2 ((cfg7.slots t 2).cast nbuf7_2))
    (fun d => (dat7 V c).before 0 t d) (fun d => (dat7 V c).before 1 t d) (fun d => (dat7 V c).before 2 t d)
    (iblk cfg7 V 0 t) (iblk cfg7 V 1 t) (segAcc (V main_arg1) (V main_v6) t.val) (by rw [e0]; exact fun y => hE _)
    (fun d => (dat7 V c).before_in_eq_fetched 0 rfl (fun _ => rfl) (fun _ _ _ => rfl) (fun t => rfl) t d)
    (fun d => (dat7 V c).before_in_eq_fetched 1 rfl (fun _ => rfl) (fun _ _ _ => rfl) (fun t => rfl) t d)
    (fun d => by
      rw [e0, e1]
      exact segOut_acc _ _ t _ fun h0 => (dat7 V c).before_out_kept 2 rfl t h0
        (Bool.eq_false_iff.mpr fun h => by
          have h1 := (flush7_2 _).1 h; have h2 := t.isLt; change t.val < grid7.N at h2; rw [N_7] at h2; dsimp only at h1; omega)
        (fun _ => rfl) (fun _ _ => rfl) d)) rfl .rfl fun _ => .rfl

/-! ## Region 8 -/

/-- What region 8's staging buffers hold after its point. -/
def after8 (V : Valuation τ sig (Elt F)) (w : Fin cfg8.W) (t : Fin cfg8.N) : (cfg8.win w).block.Idx → Elt F (cfg8.win w).elt :=
  match w with
  | ⟨0, _⟩ => iblk cfg8 V 0 t
  | ⟨1, _⟩ => iblk cfg8 V 1 t
  | ⟨2, _⟩ => iblk cfg8 V 2 t
  | ⟨3, _⟩ => iblk cfg8 V 3 t
  | ⟨4, _⟩ => iblk cfg8 V 4 t
  | ⟨5, _⟩ => k2_pay1 (V main_v5) (V main_arg9) (V main_v7) (V main_arg10) (V main_arg11)

abbrev dat8 (V : Valuation τ sig (Elt F)) (c : Dev nD) := mkDat cfg8 c V (after8 V)

/-- Region 8's body obligation. -/
theorem body8 (V : Valuation τ sig (Elt F)) (c : Dev nD) : BodyObligation (dat8 V c) (defs₀ (F := F)) Variants.none () Set.univ := fun t => by
  rw [bigSep_W8, bigSep_W8, show defs₀ (F := F) .tc cfg8.body (cfg8.bodyArgs t (cfg8.slots t)) = bodyAt8 t from by unfold defs₀; rw [Defs.onTc_tc], bodyAt8, cc8_eq]
  have e0 : iblk cfg8 V 0 t = V main_v5 := iblk_whole cfg8 V 0 t (fun _ => rfl) _ fun y j h => congrArg (V main_v5) (funext fun a => Fin.ext (h a))
  have e1 : iblk cfg8 V 1 t = V main_v7 := iblk_whole cfg8 V 1 t (fun _ => rfl) _ fun y j h => congrArg (V main_v7) (funext fun a => Fin.ext (h a))
  have e2 : iblk cfg8 V 2 t = V main_arg9 := iblk_whole cfg8 V 2 t (fun _ => rfl) _ fun y j h => congrArg (V main_arg9) (funext fun a => Fin.ext (h a))
  have e3 : iblk cfg8 V 3 t = V main_arg10 := iblk_whole cfg8 V 3 t (fun _ => rfl) _ fun y j h => congrArg (V main_arg10) (funext fun a => Fin.ext (h a))
  have e4 : iblk cfg8 V 4 t = V main_arg11 := iblk_whole cfg8 V 4 t (fun _ => rfl) _ fun y j h => congrArg (V main_arg11) (funext fun a => Fin.ext (h a))
  exact triple_restated (comb_step c ((dat8 V c).Φ t.castSucc) ((dat8 V c).owesAt () t.castSucc) _ _ _ _ _ _ _ _ _ _ _ _
    (fun d => (dat8 V c).before 0 t d) (fun d => (dat8 V c).before 1 t d) (fun d => (dat8 V c).before 5 t d) (fun d => (dat8 V c).before 2 t d) (fun d => (dat8 V c).before 3 t d) (fun d => (dat8 V c).before 4 t d)
    (iblk cfg8 V 0 t) (iblk cfg8 V 1 t) (iblk cfg8 V 2 t) (iblk cfg8 V 3 t) (iblk cfg8 V 4 t)
    (fun d => (dat8 V c).before_in_eq_fetched 0 rfl (fun _ => rfl) (fun _ _ _ => rfl) (fun t => rfl) t d)
    (fun d => (dat8 V c).before_in_eq_fetched 1 rfl (fun _ => rfl) (fun _ _ _ => rfl) (fun t => rfl) t d)
    (fun d => (dat8 V c).before_in_eq_fetched 2 rfl (fun _ => rfl) (fun _ _ _ => rfl) (fun t => rfl) t d)
    (fun d => (dat8 V c).before_in_eq_fetched 3 rfl (fun _ => rfl) (fun _ _ _ => rfl) (fun t => rfl) t d)
    (fun d => (dat8 V c).before_in_eq_fetched 4 rfl (fun _ => rfl) (fun _ _ _ => rfl) (fun t => rfl) t d)
    (k2_pay1 (V main_v5) (V main_arg9) (V main_v7) (V main_arg10) (V main_arg11)) (by rw [e0, e1, e2, e3, e4])) rfl .rfl fun _ => .rfl

/-! ## Region 9 -/

/-- What region 9's staging buffers hold after its point. -/
def after9 (V : Valuation τ sig (Elt F)) (w : Fin cfg9.W) (t : Fin cfg9.N) : (cfg9.win w).block.Idx → Elt F (cfg9.win w).elt :=
  match w with
  | ⟨0, _⟩ => iblk cfg9 V 0 t
  | ⟨1, _⟩ => iblk cfg9 V 1 t
  | ⟨2, _⟩ => iblk cfg9 V 2 t
  | ⟨3, _⟩ => k0_pay1 (V main_v8) (V main_arg12) (V main_arg13)

abbrev dat9 (V : Valuation τ sig (Elt F)) (c : Dev nD) := mkDat cfg9 c V (after9 V)

/-- Region 9's body obligation. -/
theorem body9 (V : Valuation τ sig (Elt F)) (c : Dev nD) : BodyObligation (dat9 V c) (defs₀ (F := F)) Variants.none () Set.univ := fun t => by
  rw [bigSep_W9, bigSep_W9, show defs₀ (F := F) .tc cfg9.body (cfg9.bodyArgs t (cfg9.slots t)) = bodyAt9 t from by unfold defs₀; rw [Defs.onTc_tc], bodyAt9, cc9_eq]
  have e0 : iblk cfg9 V 0 t = V main_v8 := iblk_whole cfg9 V 0 t (fun _ => rfl) _ fun y j h => congrArg (V main_v8) (funext fun a => Fin.ext (h a))
  have e1 : iblk cfg9 V 1 t = V main_arg12 := iblk_whole cfg9 V 1 t (fun _ => rfl) _ fun y j h => congrArg (V main_arg12) (funext fun a => Fin.ext (h a))
  have e2 : iblk cfg9 V 2 t = V main_arg13 := iblk_whole cfg9 V 2 t (fun _ => rfl) _ fun y j h => congrArg (V main_arg13) (funext fun a => Fin.ext (h a))
  exact triple_restated (relu_step c ((dat9 V c).Φ t.castSucc) ((dat9 V c).owesAt () t.castSucc) _ _ _ _ _ _ _ _
    (fun d => (dat9 V c).before 0 t d) (fun d => (dat9 V c).before 3 t d) (fun d => (dat9 V c).before 1 t d) (fun d => (dat9 V c).before 2 t d)
    (iblk cfg9 V 0 t) (iblk cfg9 V 1 t) (iblk cfg9 V 2 t)
    (fun d => (dat9 V c).before_in_eq_fetched 0 rfl (fun _ => rfl) (fun _ _ _ => rfl) (fun t => rfl) t d)
    (fun d => (dat9 V c).before_in_eq_fetched 1 rfl (fun _ => rfl) (fun _ _ _ => rfl) (fun t => rfl) t d)
    (fun d => (dat9 V c).before_in_eq_fetched 2 rfl (fun _ => rfl) (fun _ _ _ => rfl) (fun t => rfl) t d)
    (k0_pay1 (V main_v8) (V main_arg12) (V main_arg13)) (by rw [e0, e1, e2])) rfl .rfl fun _ => .rfl

/-! ## Region 10 -/

/-- What region 10's staging buffers hold after a point. -/
def after10 (V : Valuation τ sig (Elt F)) (w : Fin cfg10.W) (t : Fin cfg10.N) : (cfg10.win w).block.Idx → Elt F (cfg10.win w).elt :=
  match w with
  | ⟨0, _⟩ => iblk cfg10 V 0 t
  | ⟨1, _⟩ => iblk cfg10 V 1 t
  | ⟨2, _⟩ => segAcc (V main_arg1) (V main_v9) t.val

abbrev dat10 (V : Valuation τ sig (Elt F)) (c : Dev nD) := mkDat cfg10 c V (after10 V)

/-- Point `t`'s block of edges is block `t`. -/
theorem edges10 (V : Valuation τ sig (Elt F)) (t : Fin cfg10.N) : iblk cfg10 V 0 t = edgeBlk (V main_arg1) t.val := by
  have hi : ∀ t : Fin grid10.N, win10_0.index t 0 = 0 ∧ win10_0.index t 1 = t.val := by decide +kernel
  exact funext fun y => edge_eq (V main_arg1) t.val (t.isLt.trans_eq N_10) y ((win10_0.rect t).emb y)
    ((Pipeline.Window.rect_emb_val win10_0 t y 0).trans (by rw [(hi t).1]; exact Nat.zero_add _))
    ((Pipeline.Window.rect_emb_val win10_0 t y 1).trans (by rw [(hi t).2]; rfl))

/-- Region 10's body obligation. -/
theorem body10 (V : Valuation τ sig (Elt F)) (hE : ∀ y, BitVec.toNat (w := 32) (V main_arg1 y) < 10000) (c : Dev nD) :
    BodyObligation (dat10 V c) (defs₀ (F := F)) Variants.none () Set.univ := fun t => by
  rw [bigSep_W10, bigSep_W10, show defs₀ (F := F) .tc cfg10.body (cfg10.bodyArgs t (cfg10.slots t)) = bodyAt10 t from by unfold defs₀; rw [Defs.onTc_tc]]
  have e0 := edges10 V t
  have e1 : iblk cfg10 V 1 t = V main_v9 := iblk_whole cfg10 V 1 t (fun a => by fin_cases a <;> rfl) _ fun y j h => congrArg (V main_v9) (funext fun a => Fin.ext (h a))
  exact triple_restated (seg_step c ((dat10 V c).Φ t.castSucc) ((dat10 V c).owesAt () t.castSucc) (grid1.coords t) _ (hstage10_0 ((cfg10.slots t 0).cast nbuf10_0)) _ (hstage10_1 ((cfg10.slots t 1).cast nbuf10_1)) _ (hstage10_2 ((cfg10.slots t 2).cast nbuf10_2))
    (fun d => (dat10 V c).before 0 t d) (fun d => (dat10 V c).before 1 t d) (fun d => (dat10 V c).before 2 t d)
    (iblk cfg10 V 0 t) (iblk cfg10 V 1 t) (segAcc (V main_arg1) (V main_v9) t.val) (by rw [e0]; exact fun y => hE _)
    (fun d => (dat10 V c).before_in_eq_fetched 0 rfl (fun _ => rfl) (fun _ _ _ => rfl) (fun t => rfl) t d)
    (fun d => (dat10 V c).before_in_eq_fetched 1 rfl (fun _ => rfl) (fun _ _ _ => rfl) (fun t => rfl) t d)
    (fun d => by
      rw [e0, e1]
      exact segOut_acc _ _ t _ fun h0 => (dat10 V c).before_out_kept 2 rfl t h0
        (Bool.eq_false_iff.mpr fun h => by
          have h1 := (flush10_2 _).1 h; have h2 := t.isLt; change t.val < grid10.N at h2; rw [N_10] at h2; dsimp only at h1; omega)
        (fun _ => rfl) (fun _ _ => rfl) d)) rfl .rfl fun _ => .rfl

/-! ## Region 11 -/

/-- What region 11's staging buffers hold after its point. -/
def after11 (V : Valuation τ sig (Elt F)) (w : Fin cfg11.W) (t : Fin cfg11.N) : (cfg11.win w).block.Idx → Elt F (cfg11.win w).elt :=
  match w with
  | ⟨0, _⟩ => iblk cfg11 V 0 t
  | ⟨1, _⟩ => iblk cfg11 V 1 t
  | ⟨2, _⟩ => iblk cfg11 V 2 t
  | ⟨3, _⟩ => iblk cfg11 V 3 t
  | ⟨4, _⟩ => iblk cfg11 V 4 t
  | ⟨5, _⟩ => k11_pay1 (V main_v8) (V main_arg14) (V main_v10) (V main_arg15) (V main_arg16)

abbrev dat11 (V : Valuation τ sig (Elt F)) (c : Dev nD) := mkDat cfg11 c V (after11 V)

/-- Region 11's body obligation. -/
theorem body11 (V : Valuation τ sig (Elt F)) (c : Dev nD) : BodyObligation (dat11 V c) (defs₀ (F := F)) Variants.none () Set.univ := fun t => by
  rw [bigSep_W11, bigSep_W11, show defs₀ (F := F) .tc cfg11.body (cfg11.bodyArgs t (cfg11.slots t)) = bodyAt11 t from by unfold defs₀; rw [Defs.onTc_tc]]
  have e0 : iblk cfg11 V 0 t = V main_v8 := iblk_whole cfg11 V 0 t (fun _ => rfl) _ fun y j h => congrArg (V main_v8) (funext fun a => Fin.ext (h a))
  have e1 : iblk cfg11 V 1 t = V main_v10 := iblk_whole cfg11 V 1 t (fun _ => rfl) _ fun y j h => congrArg (V main_v10) (funext fun a => Fin.ext (h a))
  have e2 : iblk cfg11 V 2 t = V main_arg14 := iblk_whole cfg11 V 2 t (fun _ => rfl) _ fun y j h => congrArg (V main_arg14) (funext fun a => Fin.ext (h a))
  have e3 : iblk cfg11 V 3 t = V main_arg15 := iblk_whole cfg11 V 3 t (fun _ => rfl) _ fun y j h => congrArg (V main_arg15) (funext fun a => Fin.ext (h a))
  have e4 : iblk cfg11 V 4 t = V main_arg16 := iblk_whole cfg11 V 4 t (fun _ => rfl) _ fun y j h => congrArg (V main_arg16) (funext fun a => Fin.ext (h a))
  exact triple_restated (last_step c ((dat11 V c).Φ t.castSucc) ((dat11 V c).owesAt () t.castSucc) _ _ _ _ _ _ _ _ _ _ _ _
    (fun d => (dat11 V c).before 0 t d) (fun d => (dat11 V c).before 1 t d) (fun d => (dat11 V c).before 5 t d) (fun d => (dat11 V c).before 2 t d) (fun d => (dat11 V c).before 3 t d) (fun d => (dat11 V c).before 4 t d)
    (iblk cfg11 V 0 t) (iblk cfg11 V 1 t) (iblk cfg11 V 2 t) (iblk cfg11 V 3 t) (iblk cfg11 V 4 t)
    (fun d => (dat11 V c).before_in_eq_fetched 0 rfl (fun _ => rfl) (fun _ _ _ => rfl) (fun t => rfl) t d)
    (fun d => (dat11 V c).before_in_eq_fetched 1 rfl (fun _ => rfl) (fun _ _ _ => rfl) (fun t => rfl) t d)
    (fun d => (dat11 V c).before_in_eq_fetched 2 rfl (fun _ => rfl) (fun _ _ _ => rfl) (fun t => rfl) t d)
    (fun d => (dat11 V c).before_in_eq_fetched 3 rfl (fun _ => rfl) (fun _ _ _ => rfl) (fun t => rfl) t d)
    (fun d => (dat11 V c).before_in_eq_fetched 4 rfl (fun _ => rfl) (fun _ _ _ => rfl) (fun t => rfl) t d)
    (k11_pay1 (V main_v8) (V main_arg14) (V main_v10) (V main_arg15) (V main_arg16)) (by rw [e0, e1, e2, e3, e4])) rfl .rfl fun _ => .rfl

end Cert.KernelIdeal.Sage

end
-- ==== Proof.Run.lean ====
/-
  The kernel's run: the twelve regions one after the other, each from the contents the one before it leaves, and what the
  buffers hold at the end.
-/
module

public import proofs.«01_k».proof.Proof.Launches
public import Idealize.ShloMosaic.Lib.Pipeline.ValueKit

@[expose] public section

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ (UR sig nD τ) ℕ

/-! ## One region between two contents of the buffers -/

/-- No core owes another anything: no cell has a level. -/
abbrev L : GSem nD τ sig → Finset Unit := fun _ => ∅
abbrev lv : GSem nD τ sig → Unit → ℕ := fun _ _ => 0

/-- What goes beside the buffers through every region: the generator's register and nothing owed. -/
abbrev R (c : Dev nD) : sProp 𝕄 := iprop((∃ r, prngReg c r) ∗ ∃ W, owes (c : Thread nD τ) (0 : CellTallies nD τ sig Unit) W)

/-- The thread state between two regions: every buffer of the host at `V`. -/
abbrev state (V : Dev nD → Valuation τ sig (Elt F)) (c : Dev nD) : sProp 𝕄 :=
  iprop(StableHlo.held (c : Thread nD τ) (Pipeline.ucRefs τ sig) (V c) ∗ R c)

-- the library's lemmas are stated at the pinned configurations, which unify with these by unfolding plain definitions
set_option backward.isDefEq.respectTransparency.types false in
/-- A region as a segment from the contents `V` to the contents `V'`, given that its proof data starts from `V` and that `V'`
    is what it leaves in its arrays and `V` elsewhere. -/
def seg (pdats : (p : Fin 12) → (c : Dev nD) → Dat τ (Elt F) Unit ℕ (UR sig nD τ) ℕ (cfgs p) c) (p : Fin 12)
    (launch : Pipeline.LaunchFacts (nD := nD) (τ := τ) cfgs p)
    (hΦ : ∀ c t, (pdats p c).Φ t = Pipeline.ΦA (cfgs p).spec c) (hq : ∀ c w, (pdats p c).q w = fullShare) (howed : ∀ c t, (pdats p c).owed t = 0) (hrec : ∀ c t, (pdats p c).recorded t = Set.univ)
    (hbody : ∀ c, BodyObligation (pdats p c) (defs₀ (F := F)) Variants.none () Set.univ)
    (V V' : Dev nD → Valuation τ sig (Elt F))
    (hA : ∀ c w, (pdats p c).A w = V c (Pipeline.arrRef (cfgs p).spec w))
    (hF : ∀ c w, (pdats p c).arrAt w (cfgs p).N = V' c (Pipeline.arrRef (cfgs p).spec w))
    (hrest : ∀ c (b : Ref sig .tc), b ∉ Finset.univ.image (Pipeline.arrRef (cfgs p).spec) → V' c b = V c b) :
    Pipeline.RegionSeg (pcfgs (F := F)) adm pdats () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre := state V
  post := state V'
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pdats launch.win launch.arr_whole c
      ((pdats p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun x _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pdats ((pdats p c).share_full (hq c))
      (fun b => V c b) (fun b => V' c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

/-- A region as a segment, its proof data entered at `V`: the one output window `o` is written back once, whole, at the
    point `t₀`, with what `V'` has there; elsewhere `V'` is `V`. -/
def region (pdats : (p : Fin 12) → (c : Dev nD) → Dat τ (Elt F) Unit ℕ (UR sig nD τ) ℕ (cfgs p) c) (p : Fin 12)
    (launch : Pipeline.LaunchFacts (nD := nD) (τ := τ) cfgs p) (V V' : Dev nD → Valuation τ sig (Elt F))
    (after : Dev nD → (w : Fin (cfgs p).W) → Fin (cfgs p).N → ((cfgs p).win w).block.Idx → Elt F ((cfgs p).win w).elt)
    (hp : ∀ c, pdats p c = mkDat (cfgs p) c (V c) (after c))
    (hbody : ∀ c, BodyObligation (mkDat (cfgs p) c (V c) (after c)) (defs₀ (F := F)) Variants.none () Set.univ)
    (o : Fin (cfgs p).W) (t₀ : Fin (cfgs p).N) (hw : ((cfgs p).win o).WholeAt t₀)
    (hin : ∀ w, w ≠ o → ((cfgs p).win w).isOut = false ∧ Pipeline.arrRef (cfgs p).spec w ≠ Pipeline.arrRef (cfgs p).spec o)
    (ho : ∀ c (j : ((cfgs p).win o).shape.Idx), _root_.cast (congrArg (Elt F) ((cfgs p).win o).arr.view.elt_eq.symm)
      (after c o t₀ fun a => ⟨j a, hw.lt_size j a⟩) = V' c (Proc.devRef .tc (Pipeline.arrRef (cfgs p).spec o)) (((cfgs p).win o).arr.view.emb j))
    (hV : ∀ c (b : Ref sig .tc), b ≠ Pipeline.arrRef (cfgs p).spec o → V' c b = V c b) :
    Pipeline.RegionSeg (pcfgs (F := F)) adm pdats () defs₀ Variants.none L lv p :=
  seg pdats p launch (fun c t => by rw [hp c]) (fun c w => by rw [hp c]) (fun c t => by rw [hp c]) (fun c t => by rw [hp c])
    (fun c => by rw [hp c]; exact hbody c) V V' (fun c w => by rw [hp c])
    (fun c w => by
      rw [hp c]
      by_cases h : w = o
      · subst h
        exact (mkDat (cfgs p) c (V c) (after c)).arrAt_eq_of_after_last w t₀ hw _ (ho c) (launch.arr_whole w)
      · rw [Dat.arrAt_in _ w (hin w h).1, hV c _ (hin w h).2])
    (fun c b hb => hV c b fun e => hb (Finset.mem_image.mpr ⟨o, Finset.mem_univ _, e.symm⟩))

/-! ## What the buffers hold between the regions -/

section
variable (m : (ℓ : Loc nD τ sig) → Buf (Elt F) ℓ)

/-- What core `c`'s buffers hold at launch. -/
def S0 (c : Dev nD) : Valuation τ sig (Elt F) := fun b => m (c, b)
/-- What core `c`'s buffers hold after region 0. -/
def S1 (c : Dev nD) : Valuation τ sig (Elt F) := Function.update (S0 m c) (main_v0 : DevRef τ sig) (k0_pay1 (S0 m c main_arg0) (S0 m c main_arg2) (S0 m c main_arg3))
/-- What core `c`'s buffers hold after region 1. -/
def S2 (c : Dev nD) : Valuation τ sig (Elt F) := Function.update (S1 m c) (main_v1 : DevRef τ sig) (segAcc (S1 m c main_arg1) (S1 m c main_v0) 124)
/-- What core `c`'s buffers hold after region 2. -/
def S3 (c : Dev nD) : Valuation τ sig (Elt F) := Function.update (S2 m c) (main_v2 : DevRef τ sig) (k2_pay1 (S2 m c main_arg0) (S2 m c main_arg4) (S2 m c main_v1) (S2 m c main_arg5) (S2 m c main_arg6))
/-- What core `c`'s buffers hold after region 3. -/
def S4 (c : Dev nD) : Valuation τ sig (Elt F) := Function.update (S3 m c) (main_v3 : DevRef τ sig) (k0_pay1 (S3 m c main_v2) (S3 m c main_arg7) (S3 m c main_arg8))
/-- What core `c`'s buffers hold after region 4. -/
def S5 (c : Dev nD) : Valuation τ sig (Elt F) := Function.update (S4 m c) (main_v4 : DevRef τ sig) (segAcc (S4 m c main_arg1) (S4 m c main_v3) 124)
/-- What core `c`'s buffers hold after region 5. -/
def S6 (c : Dev nD) : Valuation τ sig (Elt F) := Function.update (S5 m c) (main_v5 : DevRef τ sig) (k2_pay1 (S5 m c main_v2) (S5 m c main_arg9) (S5 m c main_v4) (S5 m c main_arg10) (S5 m c main_arg11))
/-- What core `c`'s buffers hold after region 6. -/
def S7 (c : Dev nD) : Valuation τ sig (Elt F) := Function.update (S6 m c) (main_v6 : DevRef τ sig) (k0_pay1 (S6 m c main_v5) (S6 m c main_arg7) (S6 m c main_arg8))
/-- What core `c`'s buffers hold after region 7. -/
def S8 (c : Dev nD) : Valuation τ sig (Elt F) := Function.update (S7 m c) (main_v7 : DevRef τ sig) (segAcc (S7 m c main_arg1) (S7 m c main_v6) 124)
/-- What core `c`'s buffers hold after region 8. -/
def S9 (c : Dev nD) : Valuation τ sig (Elt F) := Function.update (S8 m c) (main_v8 : DevRef τ sig) (k2_pay1 (S8 m c main_v5) (S8 m c main_arg9) (S8 m c main_v7) (S8 m c main_arg10) (S8 m c main_arg11))
/-- What core `c`'s buffers hold after region 9. -/
def S10 (c : Dev nD) : Valuation τ sig (Elt F) := Function.update (S9 m c) (main_v9 : DevRef τ sig) (k0_pay1 (S9 m c main_v8) (S9 m c main_arg12) (S9 m c main_arg13))
/-- What core `c`'s buffers hold after region 10. -/
def S11 (c : Dev nD) : Valuation τ sig (Elt F) := Function.update (S10 m c) (main_v10 : DevRef τ sig) (segAcc (S10 m c main_arg1) (S10 m c main_v9) 124)
/-- What core `c`'s buffers hold after region 11. -/
def S12 (c : Dev nD) : Valuation τ sig (Elt F) := Function.update (S11 m c) (main_v11 : DevRef τ sig) (k11_pay1 (S11 m c main_v8) (S11 m c main_arg14) (S11 m c main_v10) (S11 m c main_arg15) (S11 m c main_arg16))
theorem S1_self (c : Dev nD) : S1 m c main_v0 = k0_pay1 (S0 m c main_arg0) (S0 m c main_arg2) (S0 m c main_arg3) := Function.update_self ..
theorem S1_of (c : Dev nD) (b : Ref sig .tc) (h : b ≠ main_v0) : S1 m c b = S0 m c b := Function.update_of_ne (StableHlo.devRef_ne_of_ne h) ..
theorem S2_self (c : Dev nD) : S2 m c main_v1 = segAcc (S1 m c main_arg1) (S1 m c main_v0) 124 := Function.update_self ..
theorem S2_of (c : Dev nD) (b : Ref sig .tc) (h : b ≠ main_v1) : S2 m c b = S1 m c b := Function.update_of_ne (StableHlo.devRef_ne_of_ne h) ..
theorem S3_self (c : Dev nD) : S3 m c main_v2 = k2_pay1 (S2 m c main_arg0) (S2 m c main_arg4) (S2 m c main_v1) (S2 m c main_arg5) (S2 m c main_arg6) := Function.update_self ..
theorem S3_of (c : Dev nD) (b : Ref sig .tc) (h : b ≠ main_v2) : S3 m c b = S2 m c b := Function.update_of_ne (StableHlo.devRef_ne_of_ne h) ..
theorem S4_self (c : Dev nD) : S4 m c main_v3 = k0_pay1 (S3 m c main_v2) (S3 m c main_arg7) (S3 m c main_arg8) := Function.update_self ..
theorem S4_of (c : Dev nD) (b : Ref sig .tc) (h : b ≠ main_v3) : S4 m c b = S3 m c b := Function.update_of_ne (StableHlo.devRef_ne_of_ne h) ..
theorem S5_self (c : Dev nD) : S5 m c main_v4 = segAcc (S4 m c main_arg1) (S4 m c main_v3) 124 := Function.update_self ..
theorem S5_of (c : Dev nD) (b : Ref sig .tc) (h : b ≠ main_v4) : S5 m c b = S4 m c b := Function.update_of_ne (StableHlo.devRef_ne_of_ne h) ..
theorem S6_self (c : Dev nD) : S6 m c main_v5 = k2_pay1 (S5 m c main_v2) (S5 m c main_arg9) (S5 m c main_v4) (S5 m c main_arg10) (S5 m c main_arg11) := Function.update_self ..
theorem S6_of (c : Dev nD) (b : Ref sig .tc) (h : b ≠ main_v5) : S6 m c b = S5 m c b := Function.update_of_ne (StableHlo.devRef_ne_of_ne h) ..
theorem S7_self (c : Dev nD) : S7 m c main_v6 = k0_pay1 (S6 m c main_v5) (S6 m c main_arg7) (S6 m c main_arg8) := Function.update_self ..
theorem S7_of (c : Dev nD) (b : Ref sig .tc) (h : b ≠ main_v6) : S7 m c b = S6 m c b := Function.update_of_ne (StableHlo.devRef_ne_of_ne h) ..
theorem S8_self (c : Dev nD) : S8 m c main_v7 = segAcc (S7 m c main_arg1) (S7 m c main_v6) 124 := Function.update_self ..
theorem S8_of (c : Dev nD) (b : Ref sig .tc) (h : b ≠ main_v7) : S8 m c b = S7 m c b := Function.update_of_ne (StableHlo.devRef_ne_of_ne h) ..
theorem S9_self (c : Dev nD) : S9 m c main_v8 = k2_pay1 (S8 m c main_v5) (S8 m c main_arg9) (S8 m c main_v7) (S8 m c main_arg10) (S8 m c main_arg11) := Function.update_self ..
theorem S9_of (c : Dev nD) (b : Ref sig .tc) (h : b ≠ main_v8) : S9 m c b = S8 m c b := Function.update_of_ne (StableHlo.devRef_ne_of_ne h) ..
theorem S10_self (c : Dev nD) : S10 m c main_v9 = k0_pay1 (S9 m c main_v8) (S9 m c main_arg12) (S9 m c main_arg13) := Function.update_self ..
theorem S10_of (c : Dev nD) (b : Ref sig .tc) (h : b ≠ main_v9) : S10 m c b = S9 m c b := Function.update_of_ne (StableHlo.devRef_ne_of_ne h) ..
theorem S11_self (c : Dev nD) : S11 m c main_v10 = segAcc (S10 m c main_arg1) (S10 m c main_v9) 124 := Function.update_self ..
theorem S11_of (c : Dev nD) (b : Ref sig .tc) (h : b ≠ main_v10) : S11 m c b = S10 m c b := Function.update_of_ne (StableHlo.devRef_ne_of_ne h) ..
theorem S12_self (c : Dev nD) : S12 m c main_v11 = k11_pay1 (S11 m c main_v8) (S11 m c main_arg14) (S11 m c main_v10) (S11 m c main_arg15) (S11 m c main_arg16) := Function.update_self ..
theorem S12_of (c : Dev nD) (b : Ref sig .tc) (h : b ≠ main_v11) : S12 m c b = S11 m c b := Function.update_of_ne (StableHlo.devRef_ne_of_ne h) ..

/-- A buffer that no region writes holds at the end what it held at launch. -/
theorem S12_kept (c : Dev nD) (b : Ref sig .tc) (h : b ∉ ([main_v0, main_v1, main_v2, main_v3, main_v4, main_v5, main_v6, main_v7, main_v8, main_v9, main_v10, main_v11] : List (Ref sig .tc))) :
    S12 m c b = m (c, b) := by
  simp only [List.mem_cons, not_or] at h
  obtain ⟨h0, h1, h2, h3, h4, h5, h6, h7, h8, h9, h10, h11, -⟩ := h
  rw [S12_of m c b h11, S11_of m c b h10, S10_of m c b h9, S9_of m c b h8, S8_of m c b h7, S7_of m c b h6, S6_of m c b h5, S5_of m c b h4,
    S4_of m c b h3, S3_of m c b h2, S2_of m c b h1, S1_of m c b h0, S0]

/-- Every region's proof data: each enters at what the one before it leaves. -/
def pdats : (p : Fin 12) → (c : Dev nD) → Dat τ (Elt F) Unit ℕ (UR sig nD τ) ℕ (cfgs p) c
  | ⟨0, _⟩ => fun c => dat0 (S0 m c) c
  | ⟨1, _⟩ => fun c => dat1 (S1 m c) c
  | ⟨2, _⟩ => fun c => dat2 (S2 m c) c
  | ⟨3, _⟩ => fun c => dat3 (S3 m c) c
  | ⟨4, _⟩ => fun c => dat4 (S4 m c) c
  | ⟨5, _⟩ => fun c => dat5 (S5 m c) c
  | ⟨6, _⟩ => fun c => dat6 (S6 m c) c
  | ⟨7, _⟩ => fun c => dat7 (S7 m c) c
  | ⟨8, _⟩ => fun c => dat8 (S8 m c) c
  | ⟨9, _⟩ => fun c => dat9 (S9 m c) c
  | ⟨10, _⟩ => fun c => dat10 (S10 m c) c
  | ⟨11, _⟩ => fun c => dat11 (S11 m c) c

variable (hE : ∀ (c : Dev nD) y, BitVec.toNat (w := 32) (m (c, (main_arg1 : DevRef τ sig)) y) < 10000)
include hE

theorem edges_in1 (c : Dev nD) (y) : BitVec.toNat (w := 32) (S1 m c main_arg1 y) < 10000 := by
  rw [S1_of m c main_arg1 (by decide)]; exact hE c y
theorem edges_in4 (c : Dev nD) (y) : BitVec.toNat (w := 32) (S4 m c main_arg1 y) < 10000 := by
  rw [S4_of m c main_arg1 (by decide), S3_of m c main_arg1 (by decide), S2_of m c main_arg1 (by decide), S1_of m c main_arg1 (by decide)]; exact hE c y
theorem edges_in7 (c : Dev nD) (y) : BitVec.toNat (w := 32) (S7 m c main_arg1 y) < 10000 := by
  rw [S7_of m c main_arg1 (by decide), S6_of m c main_arg1 (by decide), S5_of m c main_arg1 (by decide), S4_of m c main_arg1 (by decide), S3_of m c main_arg1 (by decide), S2_of m c main_arg1 (by decide), S1_of m c main_arg1 (by decide)]; exact hE c y
theorem edges_in10 (c : Dev nD) (y) : BitVec.toNat (w := 32) (S10 m c main_arg1 y) < 10000 := by
  rw [S10_of m c main_arg1 (by decide), S9_of m c main_arg1 (by decide), S8_of m c main_arg1 (by decide), S7_of m c main_arg1 (by decide), S6_of m c main_arg1 (by decide), S5_of m c main_arg1 (by decide), S4_of m c main_arg1 (by decide), S3_of m c main_arg1 (by decide), S2_of m c main_arg1 (by decide), S1_of m c main_arg1 (by decide)]; exact hE c y

omit hE in
set_option backward.isDefEq.respectTransparency.types false in
/-- Region 0 as a segment. -/
def R0 : Pipeline.RegionSeg (pcfgs (F := F)) adm (pdats m) () defs₀ Variants.none L lv 0 :=
  region (pdats m) 0 launch0 (S0 m) (S1 m) (fun c => after0 (S0 m c)) (fun _ => rfl) (fun c => body0 (S0 m c) c)
    3 ⟨0, by decide +kernel⟩ (by decide +kernel) (by decide +kernel) (fun c j => (congrFun (S1_self m c) j).symm) (S1_of m)

set_option backward.isDefEq.respectTransparency.types false in
/-- Region 1 as a segment. -/
def R1 : Pipeline.RegionSeg (pcfgs (F := F)) adm (pdats m) () defs₀ Variants.none L lv 1 :=
  region (pdats m) 1 launch1 (S1 m) (S2 m) (fun c => after1 (S1 m c)) (fun _ => rfl) (fun c => body1 (S1 m c) (edges_in1 m hE c) c)
    2 ⟨124, by decide +kernel⟩ (by decide +kernel) (by decide +kernel) (fun c j => (congrFun (S2_self m c) j).symm) (S2_of m)

omit hE in
set_option backward.isDefEq.respectTransparency.types false in
/-- Region 2 as a segment. -/
def R2 : Pipeline.RegionSeg (pcfgs (F := F)) adm (pdats m) () defs₀ Variants.none L lv 2 :=
  region (pdats m) 2 launch2 (S2 m) (S3 m) (fun c => after2 (S2 m c)) (fun _ => rfl) (fun c => body2 (S2 m c) c)
    5 ⟨0, by decide +kernel⟩ (by decide +kernel) (by decide +kernel) (fun c j => (congrFun (S3_self m c) j).symm) (S3_of m)

omit hE in
set_option backward.isDefEq.respectTransparency.types false in
/-- Region 3 as a segment. -/
def R3 : Pipeline.RegionSeg (pcfgs (F := F)) adm (pdats m) () defs₀ Variants.none L lv 3 :=
  region (pdats m) 3 launch3 (S3 m) (S4 m) (fun c => after3 (S3 m c)) (fun _ => rfl) (fun c => body3 (S3 m c) c)
    3 ⟨0, by decide +kernel⟩ (by decide +kernel) (by decide +kernel) (fun c j => (congrFun (S4_self m c) j).symm) (S4_of m)

set_option backward.isDefEq.respectTransparency.types false in
/-- Region 4 as a segment. -/
def R4 : Pipeline.RegionSeg (pcfgs (F := F)) adm (pdats m) () defs₀ Variants.none L lv 4 :=
  region (pdats m) 4 launch4 (S4 m) (S5 m) (fun c => after4 (S4 m c)) (fun _ => rfl) (fun c => body4 (S4 m c) (edges_in4 m hE c) c)
    2 ⟨124, by decide +kernel⟩ (by decide +kernel) (by decide +kernel) (fun c j => (congrFun (S5_self m c) j).symm) (S5_of m)

omit hE in
set_option backward.isDefEq.respectTransparency.types false in
/-- Region 5 as a segment. -/
def R5 : Pipeline.RegionSeg (pcfgs (F := F)) adm (pdats m) () defs₀ Variants.none L lv 5 :=
  region (pdats m) 5 launch5 (S5 m) (S6 m) (fun c => after5 (S5 m c)) (fun _ => rfl) (fun c => body5 (S5 m c) c)
    5 ⟨0, by decide +kernel⟩ (by decide +kernel) (by decide +kernel) (fun c j => (congrFun (S6_self m c) j).symm) (S6_of m)

omit hE in
set_option backward.isDefEq.respectTransparency.types false in
/-- Region 6 as a segment. -/
def R6 : Pipeline.RegionSeg (pcfgs (F := F)) adm (pdats m) () defs₀ Variants.none L lv 6 :=
  region (pdats m) 6 launch6 (S6 m) (S7 m) (fun c => after6 (S6 m c)) (fun _ => rfl) (fun c => body6 (S6 m c) c)
    3 ⟨0, by decide +kernel⟩ (by decide +kernel) (by decide +kernel) (fun c j => (congrFun (S7_self m c) j).symm) (S7_of m)

set_option backward.isDefEq.respectTransparency.types false in
/-- Region 7 as a segment. -/
def R7 : Pipeline.RegionSeg (pcfgs (F := F)) adm (pdats m) () defs₀ Variants.none L lv 7 :=
  region (pdats m) 7 launch7 (S7 m) (S8 m) (fun c => after7 (S7 m c)) (fun _ => rfl) (fun c => body7 (S7 m c) (edges_in7 m hE c) c)
    2 ⟨124, by decide +kernel⟩ (by decide +kernel) (by decide +kernel) (fun c j => (congrFun (S8_self m c) j).symm) (S8_of m)

omit hE in
set_option backward.isDefEq.respectTransparency.types false in
/-- Region 8 as a segment. -/
def R8 : Pipeline.RegionSeg (pcfgs (F := F)) adm (pdats m) () defs₀ Variants.none L lv 8 :=
  region (pdats m) 8 launch8 (S8 m) (S9 m) (fun c => after8 (S8 m c)) (fun _ => rfl) (fun c => body8 (S8 m c) c)
    5 ⟨0, by decide +kernel⟩ (by decide +kernel) (by decide +kernel) (fun c j => (congrFun (S9_self m c) j).symm) (S9_of m)

omit hE in
set_option backward.isDefEq.respectTransparency.types false in
/-- Region 9 as a segment. -/
def R9 : Pipeline.RegionSeg (pcfgs (F := F)) adm (pdats m) () defs₀ Variants.none L lv 9 :=
  region (pdats m) 9 launch9 (S9 m) (S10 m) (fun c => after9 (S9 m c)) (fun _ => rfl) (fun c => body9 (S9 m c) c)
    3 ⟨0, by decide +kernel⟩ (by decide +kernel) (by decide +kernel) (fun c j => (congrFun (S10_self m c) j).symm) (S10_of m)

set_option backward.isDefEq.respectTransparency.types false in
/-- Region 10 as a segment. -/
def R10 : Pipeline.RegionSeg (pcfgs (F := F)) adm (pdats m) () defs₀ Variants.none L lv 10 :=
  region (pdats m) 10 launch10 (S10 m) (S11 m) (fun c => after10 (S10 m c)) (fun _ => rfl) (fun c => body10 (S10 m c) (edges_in10 m hE c) c)
    2 ⟨124, by decide +kernel⟩ (by decide +kernel) (by decide +kernel) (fun c j => (congrFun (S11_self m c) j).symm) (S11_of m)

omit hE in
set_option backward.isDefEq.respectTransparency.types false in
/-- Region 11 as a segment. -/
def R11 : Pipeline.RegionSeg (pcfgs (F := F)) adm (pdats m) () defs₀ Variants.none L lv 11 :=
  region (pdats m) 11 launch11 (S11 m) (S12 m) (fun c => after11 (S11 m c)) (fun _ => rfl) (fun c => body11 (S11 m c) c)
    5 ⟨0, by decide +kernel⟩ (by decide +kernel) (by decide +kernel) (fun c j => (congrFun (S12_self m c) j).symm) (S12_of m)

/-- The twelve regions in order. -/
abbrev segs : List (Pipeline.Seg (pcfgs (F := F)) adm (pdats m) () defs₀ Variants.none L lv) :=
  [.region (R0 m), .region (R1 m hE), .region (R2 m), .region (R3 m), .region (R4 m hE), .region (R5 m), .region (R6 m), .region (R7 m hE), .region (R8 m), .region (R9 m), .region (R10 m hE), .region (R11 m)]

set_option backward.isDefEq.respectTransparency.types false in
/-- Every run of the kernel ends, with every buffer of the host at the last contents and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = S12 m c b) ∧ r.2.sem = fun _ => 0) :=
  Pipeline.θ_run_regions_kit_sems (pcfgs (F := F)) adm (pdats m) () cellOf_inj emb₁ defs₀ Variants.none L lv m ρ main (segs m hE)
    (fun c Q => by
      rewrite [main_chain c, Pipeline.Seg.run_eq_chain, show (segs m hE).map Pipeline.Seg.prog = [Prog.lift (.customCall (Pipeline.entry 0) ()), Prog.lift (.customCall (Pipeline.entry 1) ()), Prog.lift (.customCall (Pipeline.entry 2) ()), Prog.lift (.customCall (Pipeline.entry 3) ()), Prog.lift (.customCall (Pipeline.entry 4) ()), Prog.lift (.customCall (Pipeline.entry 5) ()), Prog.lift (.customCall (Pipeline.entry 6) ()), Prog.lift (.customCall (Pipeline.entry 7) ()), Prog.lift (.customCall (Pipeline.entry 8) ()), Prog.lift (.customCall (Pipeline.entry 9) ()), Prog.lift (.customCall (Pipeline.entry 10) ()), Prog.lift (.customCall (Pipeline.entry 11) ())] from rfl]
      dsimp (config := { failIfUnchanged := false }) only
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (S0 m)) (Tₙ := fun c => iprop(StableHlo.held (c : Thread nD τ) (Pipeline.ucRefs τ sig) (S12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show state (S12 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (S0 m c)
        from Pipeline.unscopedBufs_held c (S0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = S12 m c b)
    (hfin := fun c s' => by
      iintro ⟨⟨Hh, -⟩, HSI⟩
      unfold StableHlo.held
      imodintro
      iapply (pointsTo_read_all (Pipeline.ucRefs τ sig) (fun b => (((c : Thread nD τ)).1, b)) (S12 m c) s')
      isplitl [Hh] <;> iassumption)
    (hQ := fun s h hz => ⟨h, funext fun g => hz g (.inr (regions_no_unscoped g.2))⟩)

end

end Cert.KernelIdeal.Sage

end
-- ==== Proof.Frames.lean ====
/-
  The frames: the kernel and the ideal kernel run to the end, leave their arguments as they were and every counter at zero,
  where every end of every edge is a node's number.
-/
module

public import proofs.«01_k».proof.Proof.Run
public import proofs.«01_k».proof.Proof.Gen.Kernel
public import proofs.«01_k».proof.Proof.Gen.Kernel.Loops

@[expose] public section

noncomputable section

namespace Cert.KernelIdeal.Sage

open Cert.KernelIdeal Cert.KernelIdeal.Gen
open Idealize.ShloMosaic Idealize.ShloMosaic.TcCoe Idealize.SL.Sem

variable (F : FTy → Type) [FloatOps F]

/-- The ideal kernel's frame over the floats `F`: on edges within range it ends, with its arguments unchanged and every counter
    at zero. -/
def IdealFrame : Prop := ∀ (m : (ℓ : Loc Cert.KernelIdeal.nD Cert.KernelIdeal.τ Cert.KernelIdeal.sig) → Buf (Elt F) ℓ) (g : Dev Cert.KernelIdeal.nD → PrngReg),
    (∀ (c : Dev Cert.KernelIdeal.nD) y, BitVec.toNat (w := 32) (m ((c.tc : Thread Cert.KernelIdeal.nD Cert.KernelIdeal.τ).loc Cert.KernelIdeal.main_arg1) y) < 10000) →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) ∧ r.2.sem = fun _ => 0)

/-- The kernel's frame over the floats `F`. -/
def KernelFrame : Prop := ∀ (m : (ℓ : Loc Cert.Kernel.nD Cert.Kernel.τ Cert.Kernel.sig) → Buf (Elt F) ℓ) (g : Dev Cert.Kernel.nD → PrngReg),
    (∀ (c : Dev Cert.Kernel.nD) y, BitVec.toNat (w := 32) (m ((c.tc : Thread Cert.Kernel.nD Cert.Kernel.τ).loc Cert.Kernel.main_arg1) y) < 10000) →
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)) ∧ r.2.sem = fun _ => 0)

/-- The two programs are the same text, so the two frames are the same statement. -/
theorem frames_eq : KernelFrame F = IdealFrame F := by unfold KernelFrame IdealFrame; chain_rfl

/-- A buffer of the host is among those read at the end. -/
theorem mem_uc (b : Ref sig .tc) (h : (Proc.devRef (τ := τ) .tc b : DevRef τ sig).isScoped = false) :
    (Proc.devRef .tc b : DevRef τ sig) ∈ Pipeline.ucRefs τ sig :=
  Finset.mem_filter.mpr ⟨StableHlo.devRef_mem_tcRefs b, by simpa using h⟩

variable {F} in
/-- A final memory that holds what the regions leave holds the arguments of the launch. -/
theorem args_kept (m : (ℓ : Loc nD τ sig) → Buf (Elt F) ℓ) (c : Dev nD) (mem : (ℓ : Loc nD τ sig) → Buf (Elt F) ℓ)
    (h : ∀ b ∈ Pipeline.ucRefs τ sig, mem (c, b) = S12 m c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16) :=
  ⟨(h _ (mem_uc main_arg0 (by decide))).trans (S12_kept m c main_arg0 (by decide)),
    (h _ (mem_uc main_arg1 (by decide))).trans (S12_kept m c main_arg1 (by decide)),
    (h _ (mem_uc main_arg2 (by decide))).trans (S12_kept m c main_arg2 (by decide)),
    (h _ (mem_uc main_arg3 (by decide))).trans (S12_kept m c main_arg3 (by decide)),
    (h _ (mem_uc main_arg4 (by decide))).trans (S12_kept m c main_arg4 (by decide)),
    (h _ (mem_uc main_arg5 (by decide))).trans (S12_kept m c main_arg5 (by decide)),
    (h _ (mem_uc main_arg6 (by decide))).trans (S12_kept m c main_arg6 (by decide)),
    (h _ (mem_uc main_arg7 (by decide))).trans (S12_kept m c main_arg7 (by decide)),
    (h _ (mem_uc main_arg8 (by decide))).trans (S12_kept m c main_arg8 (by decide)),
    (h _ (mem_uc main_arg9 (by decide))).trans (S12_kept m c main_arg9 (by decide)),
    (h _ (mem_uc main_arg10 (by decide))).trans (S12_kept m c main_arg10 (by decide)),
    (h _ (mem_uc main_arg11 (by decide))).trans (S12_kept m c main_arg11 (by decide)),
    (h _ (mem_uc main_arg12 (by decide))).trans (S12_kept m c main_arg12 (by decide)),
    (h _ (mem_uc main_arg13 (by decide))).trans (S12_kept m c main_arg13 (by decide)),
    (h _ (mem_uc main_arg14 (by decide))).trans (S12_kept m c main_arg14 (by decide)),
    (h _ (mem_uc main_arg15 (by decide))).trans (S12_kept m c main_arg15 (by decide)),
    (h _ (mem_uc main_arg16 (by decide))).trans (S12_kept m c main_arg16 (by decide))⟩

/-- The ideal kernel's frame, at any floats. -/
theorem ideal_frame : IdealFrame F := fun m g hE =>
  (θ_run defs _ _).mono (fun r h => ⟨fun c => args_kept m c r.2.mem (h.1 c), h.2⟩) (run m hE g)

/-- The kernel's frame, at any floats. -/
theorem kernel_frame : KernelFrame F := (frames_eq F).mpr (ideal_frame F)

end Cert.KernelIdeal.Sage

end
-- ==== Proof.Pre.lean ====
/-
  What the two preconditions say: every end of an edge is a node's number; the features and the message weights are finite.
-/
module

public import proofs.«01_k».proof.Defs
public import proofs.«01_k».proof.Proof.Gen.Pre_valid_edges
public import proofs.«01_k».proof.Proof.Gen.Pre_valid_graph
public import Idealize.ShloMosaic.Lib.ReduceAll
public import Idealize.ShloMosaic.Lib.ValueIdx

@[expose] public section

noncomputable section

namespace Cert.KernelIdeal.Sage

open Idealize.ShloMosaic

attribute [local instance] Cert.Pre_valid_edges.Gen.facts Cert.Pre_valid_graph.Gen.facts

theorem andi_both {p q : BitVec 1} (h : IntOp.andi p q = 1#1) : p = 1#1 ∧ q = 1#1 := IntOp.andi_eq_one.1 h

/-- A word that compares at least 0 and less than 10000 is a number below 10000. -/
theorem node_of_compares (w : BitVec 32) (h : IntOp.andi (IntOp.cmpi .sge w 0#32) (IntOp.cmpi .slt w 10000#32) = 1#1) : w.toNat < 10000 := by
  obtain ⟨h1, h2⟩ := andi_both h
  have ofBool_one : ∀ p : Bool, BitVec.ofBool p = 1#1 → p = true := by decide
  have h1 := ofBool_one _ h1
  have h2 := ofBool_one _ h2
  simp only [BitVec.sle, BitVec.slt, decide_eq_true_eq, BitVec.toInt, BitVec.toNat_ofNat] at h1 h2
  omega

/-- A scalar array has one index. -/
instance : Subsingleton (Cert.Pre_valid_edges.S_).Idx := ⟨fun _ _ => funext fun a => a.elim0⟩

/-- `jnp.all` of the range test says that every word of the edges is a node's number. -/
theorem edges_of_all {F : FTy → Type} [FloatOps F] (E : IVec Cert.Pre_valid_edges.S2x160000 32) (x0 x2 x3 x4 x5 x6 x7 x8 x9 x10 x11 x12 x13 x14 x15 x16)
    (h : Cert.Pre_valid_edges.fn (F := F) x0 E x2 x3 x4 x5 x6 x7 x8 x9 x10 x11 x12 x13 x14 x15 x16 = fun _ => 1#1) (y) : (E y).toNat < 10000 :=
  node_of_compares _ (Host.reduce_andi_all _ _ _ _ (fun a => a.elim0) (congrFun h _) y)

/-- An extended real that is neither infinity. -/
def Fin' (x : EReal) : Prop := x ≠ ⊥ ∧ x ≠ ⊤

/-- Comparing less than the word of +∞ in absolute value is being finite. -/
theorem finite_of_compares (x : EReal) (h : Ideal.cmp .olt (max x (-x)) (Ideal.ofBits .f32 0x7F800000#32) = 1#1) : Fin' x := by
  have ofBool_one : ∀ p : Bool, BitVec.ofBool p = 1#1 → p = true := by decide
  have h := ofBool_one _ h
  have e : Ideal.ofBits .f32 0x7F800000#32 = ⊤ := by simp [Ideal.ofBits, Ideal.ieee]
  rw [e] at h
  simp only [decide_eq_true_eq, max_lt_iff] at h
  refine ⟨fun e => ?_, fun e => ?_⟩ <;> simp [e] at h

/-- `jnp.all` of the finiteness test of an array says that its elements are finite. -/
theorem finite_of_all {s : Shape} {axes : List (Fin s.rank)} (x : FVec Ideal s .f32) (hb : Cert.Pre_valid_graph.S_.BroadcastsInDim s ![])
    (init : IVec Cert.Pre_valid_graph.S_ 1) (hr : s.ReducesTo axes Cert.Pre_valid_graph.S_) (hu : 0 < Cert.Pre_valid_graph.S_.numel) (j)
    (h : Host.reduce IntOp.andi (cmpf .olt (Host.absf x) (broadcastInDim s ![] hb (constant Cert.Pre_valid_graph.S_ .f32 0x7F800000#32))) init hr hu j = 1#1)
    (y : s.Idx) : Fin' (x y) :=
  finite_of_compares _ (Host.reduce_andi_all _ _ _ _ j h y)

/-- The second precondition: the edges' range, and the features, the message weights and their biases finite. -/
theorem graph_of_all (x0) (E : IVec Cert.Pre_valid_graph.S2x160000 32) (x2 x3 x4 x5 x6 x7 x8 x9 x10 x11 x12 x13 x14 x15 x16)
    (h : Cert.Pre_valid_graph.fn (F := Ideal) x0 E x2 x3 x4 x5 x6 x7 x8 x9 x10 x11 x12 x13 x14 x15 x16 = fun _ => 1#1) :
    (∀ y, (E y).toNat < 10000) ∧ (∀ y, Fin' (x0 y)) ∧ (∀ y, Fin' (x2 y)) ∧ (∀ y, Fin' (x3 y)) ∧ (∀ y, Fin' (x7 y)) ∧ (∀ y, Fin' (x8 y))
      ∧ (∀ y, Fin' (x12 y)) ∧ (∀ y, Fin' (x13 y)) := by
  have h := congrFun h (fun a => a.elim0)
  rw [Cert.Pre_valid_graph.fn, Cert.Pre_valid_graph.fn_part1, Cert.Pre_valid_graph.fn_part2] at h
  obtain ⟨hE, h⟩ := andi_both h
  obtain ⟨h, h13⟩ := andi_both h
  obtain ⟨h, h12⟩ := andi_both h
  obtain ⟨h, h8⟩ := andi_both h
  obtain ⟨h, h7⟩ := andi_both h
  obtain ⟨h, h3⟩ := andi_both h
  obtain ⟨h0, h2⟩ := andi_both h
  exact ⟨fun y => node_of_compares _ (Host.reduce_andi_all _ _ _ _ _ hE y), finite_of_all _ _ _ _ _ _ h0, finite_of_all _ _ _ _ _ _ h2,
    finite_of_all _ _ _ _ _ _ h3, finite_of_all _ _ _ _ _ _ h7, finite_of_all _ _ _ _ _ _ h8, finite_of_all _ _ _ _ _ _ h12, finite_of_all _ _ _ _ _ _ h13⟩

end Cert.KernelIdeal.Sage

end
-- ==== Proof.SegMax.lean ====
/-
  The segment maximum over the extended reals: what the kernel's walk over the edges leaves, as bounds.
-/
module

public import proofs.«01_k».proof.Proof.Launches
public import Idealize.ShloMosaic.Lib.IdealHost

@[expose] public section

noncomputable section

namespace Cert.KernelIdeal.Sage

open Cert.KernelIdeal Cert.KernelIdeal.Gen
open Idealize.ShloMosaic Idealize.SL.Sem

/-- Edge number `k` of the list, its number wrapped to the list's length. -/
def nth (k : ℕ) : Fin 160000 := ⟨k % 160000, Nat.mod_lt _ (by decide)⟩

/-- The maximum of 0 and of the messages of those of the first `k` edges that end at the node `y 0`. -/
def upTo (E : Vec Ideal S2x160000 .i32) (m : Vec Ideal S10000x256 .f32) (y : S10000x256.Idx) : ℕ → EReal
  | 0 => 0
  | k + 1 => if (y 0).val = BitVec.toNat (w := 32) (E (edgesAt 1 (nth k))) then max (upTo E m y k) (rowOf m (E (edgesAt 0 (nth k))) y)
      else upTo E m y k

/-- One edge block carries the maximum on by its 1280 edges. -/
theorem blockFold_upTo (E : Vec Ideal S2x160000 .i32) (m g : Vec Ideal S10000x256 .f32) (n : ℕ)
    (hg : ∀ y, g y = upTo E m y (1280 * n)) : ∀ k, k ≤ 1280 → ∀ y, blockFold m (edgeBlk E n) g k y = upTo E m y (1280 * n + k)
  | 0, _, y => hg y
  | k + 1, hk, y => by
    have ih := blockFold_upTo E m g n hg k (by omega) y
    have e : ∀ r, edgeBlk E n (edgeAt r ⟨k, hk⟩) = E (edgesAt r (nth (1280 * n + k))) := fun r => rfl
    rw [blockFold, dif_pos (show k < 1280 from hk), e, e]
    show (if (y 0).val = _ then max (blockFold m (edgeBlk E n) g k y : EReal) _ else blockFold m (edgeBlk E n) g k y) = _
    rw [ih]
    rfl

/-- After block `n` the running maximum is over the first `1280 (n + 1)` edges. -/
theorem segAcc_upTo (E : Vec Ideal S2x160000 .i32) (m : Vec Ideal S10000x256 .f32) :
    ∀ n y, segAcc E m n y = upTo E m y (1280 * (n + 1))
  | 0, y => blockFold_upTo E m _ 0 (fun y => Ideal.ofBits_zero_f32) 1280 le_rfl y
  | n + 1, y => blockFold_upTo E m _ (n + 1) (segAcc_upTo E m n) 1280 le_rfl y

/-- The running maximum's upper bounds. -/
theorem upTo_le (E : Vec Ideal S2x160000 .i32) (m : Vec Ideal S10000x256 .f32) (y : S10000x256.Idx) (z : EReal) :
    ∀ n, upTo E m y n ≤ z ↔ 0 ≤ z ∧ ∀ k < n, (y 0).val = BitVec.toNat (w := 32) (E (edgesAt 1 (nth k))) → rowOf m (E (edgesAt 0 (nth k))) y ≤ z
  | 0 => by simp [upTo]
  | n + 1 => by
    have ih := upTo_le E m y z n
    rw [upTo]
    have sp : (∀ k < n + 1, (y 0).val = BitVec.toNat (w := 32) (E (edgesAt 1 (nth k))) → rowOf m (E (edgesAt 0 (nth k))) y ≤ z)
        ↔ (∀ k < n, (y 0).val = BitVec.toNat (w := 32) (E (edgesAt 1 (nth k))) → rowOf m (E (edgesAt 0 (nth k))) y ≤ z)
          ∧ ((y 0).val = BitVec.toNat (w := 32) (E (edgesAt 1 (nth n))) → rowOf m (E (edgesAt 0 (nth n))) y ≤ z) :=
      ⟨fun h => ⟨fun k hk => h k (by omega), h n (by omega)⟩, fun h k hk => by
        rcases Nat.lt_succ_iff_lt_or_eq.mp hk with hk | rfl
        · exact h.1 k hk
        · exact h.2⟩
    rw [sp]
    split
    · rw [max_le_iff, ih]; tauto
    · rw [ih]; tauto

/-- What the whole walk leaves, by its upper bounds: 0 and every message of an edge that ends at the node. -/
theorem segAcc_le (E : Vec Ideal S2x160000 .i32) (m : Vec Ideal S10000x256 .f32) (y : S10000x256.Idx) (z : EReal) :
    (segAcc E m 124 y : EReal) ≤ z ↔ 0 ≤ z ∧ ∀ k : Fin 160000, (y 0).val = BitVec.toNat (w := 32) (E (edgesAt 1 k)) → rowOf m (E (edgesAt 0 k)) y ≤ z := by
  rw [segAcc_upTo, upTo_le]
  refine and_congr_right fun _ => ⟨fun h k => ?_, fun h k _ => h (nth k)⟩
  have e : nth k.val = k := Fin.ext (Nat.mod_eq_of_lt k.isLt)
  have := h k.val k.isLt
  rwa [e] at this

end Cert.KernelIdeal.Sage

end
-- ==== Proof.RefAgg.lean ====
/-
  The reference's aggregation over the extended reals: the gathered messages and their maximum at a node, by its bounds.
-/
module

public import proofs.«01_k».proof.Proof.Gen.ReferenceIdeal.Run
public import Idealize.ShloMosaic.Lib.Routing.Ops
public import Idealize.ShloMosaic.Lib.Pipeline.Value
public import Idealize.ShloMosaic.Lib.ValueLayout
public import Idealize.ShloMosaic.Lib.ReduceAll
public import Idealize.ShloMosaic.Lib.IdealHost

@[expose] public section

noncomputable section

namespace Cert.ReferenceIdeal.Sage

open Cert.ReferenceIdeal Cert.ReferenceIdeal.Gen
open Idealize.ShloMosaic Idealize.ShloMosaic.ValueIdx Idealize.SL.Sem

/-- The sources of the edges: row 0 of the list. -/
def srcs (E : IVec S2x160000 32) : IVec S160000 32 :=
  shapeCast _ (extractStridedSlice S1x160000 ![0, 0] E slices_S2x160000_S1x160000_0_0) shapeCasts_S1x160000_S160000

/-- The targets of the edges: row 1 of the list. -/
def dsts (E : IVec S2x160000 32) : IVec S160000 32 :=
  shapeCast _ (extractStridedSlice S1x160000 ![1, 0] E slices_S2x160000_S1x160000_1_0) shapeCasts_S1x160000_S160000

/-- Source `k` is the list's word at (0, k). -/
theorem srcs_apply (E : IVec S2x160000 32) (k : Fin 160000) : srcs E (ix1 k) = E (ix2 (0 : Fin 2) k) := by
  unfold srcs
  refine (shapeCast_1a_a_apply _ _ k).trans (extractStridedSlice_apply _ _ _ _ _ fun a => ?_)
  match a with
  | ⟨0, _⟩ => rfl
  | ⟨1, _⟩ => exact (Nat.zero_add _).symm

/-- Target `k` is the list's word at (1, k). -/
theorem dsts_apply (E : IVec S2x160000 32) (k : Fin 160000) : dsts E (ix1 k) = E (ix2 (1 : Fin 2) k) := by
  unfold dsts
  refine (shapeCast_1a_a_apply _ _ k).trans (extractStridedSlice_apply _ _ _ _ _ fun a => ?_)
  match a with
  | ⟨0, _⟩ => rfl
  | ⟨1, _⟩ => exact (Nat.zero_add _).symm

/-- The sources with a negative one counted from the end, as a column. -/
def column (E : IVec S2x160000 32) : IVec S160000x1 32 :=
  broadcastInDim S160000x1 ![0] bcast_S160000_S160000x1_0 (select (cmpi .slt (srcs E) (broadcastInDim S160000 ![] bcast_S_S160000 (constantI S_ 32 0#32))) (addi (srcs E) (broadcastInDim S160000 ![] bcast_S_S160000 (constantI S_ 32 10000#32))) (srcs E))

/-- Of a node's number, the choice between it and it plus 10000 is it. -/
theorem wrap_of_lt (w : BitVec 32) (h : w.toNat < 10000) : (if IntOp.cmpi .slt w 0#32 = 1#1 then IntOp.addi w 10000#32 else w) = w := by
  rw [if_neg]
  intro e
  have ofBool_one : ∀ p : Bool, BitVec.ofBool p = 1#1 → p = true := by decide
  have e := ofBool_one _ e
  simp only [BitVec.slt, decide_eq_true_eq, BitVec.toInt, BitVec.toNat_ofNat] at e
  omega

/-- A node's number passes the two tests of the gather's mask. -/
theorem mask_of_lt (w : BitVec 32) (h : w.toNat < 10000) : IntOp.andi (IntOp.cmpi .sge w 0#32) (IntOp.cmpi .sle w 9999#32) = 1#1 := by
  have e1 : IntOp.cmpi .sge w 0#32 = 1#1 := congrArg BitVec.ofBool (show BitVec.sle 0#32 w = true by
    simp only [BitVec.sle, decide_eq_true_eq, BitVec.toInt, BitVec.toNat_ofNat]; omega)
  have e2 : IntOp.cmpi .sle w 9999#32 = 1#1 := congrArg BitVec.ofBool (show BitVec.sle w 9999#32 = true by
    simp only [BitVec.sle, decide_eq_true_eq, BitVec.toInt, BitVec.toNat_ofNat]; omega)
  rw [e1, e2]; rfl

/-- The column at edge `k` is the edge's source. -/
theorem column_apply (E : IVec S2x160000 32) (hE : ∀ y, (E y).toNat < 10000) (k : Fin 160000) (u : Fin 1) :
    column E (ix2 k u) = E (ix2 (0 : Fin 2) k) := by
  unfold column
  refine (broadcastInDim_apply _ _ _ _ (ix1 k) fun a => ?_).trans ?_
  · match a with
    | ⟨0, _⟩ => rfl
  · refine Eq.trans ?_ (srcs_apply E k)
    exact wrap_of_lt _ (by rw [srcs_apply]; exact hE _)

/-- The messages gathered along the edges, with NaN outside the nodes. -/
def taken (E : IVec S2x160000 32) (m : FVec Ideal S10000x256 .f32) : FVec Ideal S160000x256 .f32 :=
  select (broadcastInDim S160000x256 ![0] bcast_S160000_S160000x256_0 (Host.reduce IntOp.andi (andi (cmpi .sge (column E) (broadcastInDim S160000x1 ![] bcast_S_S160000x1 (constantI S_ 32 0#32))) (cmpi .sle (column E) (broadcastInDim S160000x1 ![0, 1] bcast_S1x1_S160000x1_0_1 (broadcastInDim S1x1 ![1] bcast_S1_S1x1_1 (constantI S1 32 9999#32))))) (constantI S_ 1 1#1) reducesTo_S160000x1_S160000_d1 h_S_)) (Host.gather gather_S10000x256_S160000x1_S160000x256_1_0_n_n_0_1_1256 m (column E)) (broadcastInDim S160000x256 ![] bcast_S_S160000x256 (constant S_ .f32 0x7FC00000#32))

/-- A choice by a mask that holds everywhere, laid along the rows, is the first operand. -/
theorem select_of_all (b : IVec S160000 1) (h : ∀ p, b p = 1#1) (x z : FVec Ideal S160000x256 .f32) (y : S160000x256.Idx) :
    select (broadcastInDim S160000x256 ![0] bcast_S160000_S160000x256_0 b) x z y = x y := if_pos (h _)

/-- The gathered message of edge `k` is the row of its source. -/
theorem taken_apply (E : IVec S2x160000 32) (hE : ∀ y, (E y).toNat < 10000) (m : FVec Ideal S10000x256 .f32) (k : Fin 160000) (c : Fin 256) :
    taken E m (ix2 k c) = m (ix2 ⟨(E (ix2 (0 : Fin 2) k)).toNat, hE _⟩ c) := by
  have hm : ∀ p, Host.reduce IntOp.andi (andi (cmpi .sge (column E) (broadcastInDim S160000x1 ![] bcast_S_S160000x1 (constantI S_ 32 0#32))) (cmpi .sle (column E) (broadcastInDim S160000x1 ![0, 1] bcast_S1x1_S160000x1_0_1 (broadcastInDim S1x1 ![1] bcast_S1_S1x1_1 (constantI S1 32 9999#32))))) (constantI S_ 1 1#1) reducesTo_S160000x1_S160000_d1 h_S_ p = 1#1 := fun p =>
    Host.reduce_andi_one _ _ _ _ p rfl fun i => by
      obtain ⟨k, u, rfl⟩ : ∃ (k : Fin 160000) (u : Fin 1), i = ix2 k u := ⟨_, _, eq_ix2 i⟩
      show IntOp.andi (IntOp.cmpi .sge (column E (ix2 k u)) 0#32) (IntOp.cmpi .sle (column E (ix2 k u)) 9999#32) = 1#1
      rw [column_apply E hE]
      exact mask_of_lt _ (hE _)
  refine (select_of_all _ hm _ _ _).trans ?_
  refine Routing.gather_row _ rfl rfl rfl rfl rfl m (column E) k c ⟨(E (ix2 (0 : Fin 2) k)).toNat, hE _⟩ ?_ (by decide)
  rw [column_apply E hE]
  simp

/-- Whether edge `k` ends at node `v`, for every node, edge and feature. -/
def incoming (E : IVec S2x160000 32) : IVec S10000x160000x256 1 :=
  broadcastInDim S10000x160000x256 ![0, 1, 2] bcast_S10000x160000x1_S10000x160000x256_0_1_2 (broadcastInDim S10000x160000x1 ![0, 1] bcast_S10000x160000_S10000x160000x1_0_1 (cmpi .eq (broadcastInDim S10000x160000 ![0, 1] bcast_S1x160000_S10000x160000_0_1 (broadcastInDim S1x160000 ![1] bcast_S160000_S1x160000_1 (dsts E))) (broadcastInDim S10000x160000 ![0, 1] bcast_S10000x1_S10000x160000_0_1 (broadcastInDim S10000x1 ![0] bcast_S10000_S10000x1_0 (iotaInDim S10000 32 0)))))

/-- It compares the edge's target with the node's number. -/
theorem incoming_apply (E : IVec S2x160000 32) (v : Fin 10000) (k : Fin 160000) (c : Fin 256) :
    incoming E (ix3 v k c) = IntOp.cmpi .eq (E (ix2 (1 : Fin 2) k)) (BitVec.ofNat 32 v.val) := by
  unfold incoming
  refine (broadcastInDim_apply _ _ _ _ (ix3 v k (0 : Fin 1)) fun a => ?_).trans ?_
  · match a with
    | ⟨0, _⟩ => rfl
    | ⟨1, _⟩ => rfl
    | ⟨2, _⟩ => rfl
  refine (broadcastInDim_apply _ _ _ _ (ix2 v k) fun a => ?_).trans ?_
  · match a with
    | ⟨0, _⟩ => rfl
    | ⟨1, _⟩ => rfl
  refine congrArg₂ (IntOp.cmpi .eq) ?_ ?_
  · refine (broadcastInDim_apply _ _ _ _ (ix2 (0 : Fin 1) k) fun a => ?_).trans ?_
    · match a with
      | ⟨0, _⟩ => rfl
      | ⟨1, _⟩ => rfl
    refine (broadcastInDim_apply _ _ _ _ (ix1 k) fun a => ?_).trans (dsts_apply E k)
    match a with
    | ⟨0, _⟩ => rfl
  · refine (broadcastInDim_apply _ _ _ _ (ix2 v (0 : Fin 1)) fun a => ?_).trans ?_
    · match a with
      | ⟨0, _⟩ => rfl
      | ⟨1, _⟩ => rfl
    refine (broadcastInDim_apply _ _ _ _ (ix1 v) fun a => ?_).trans rfl
    match a with
    | ⟨0, _⟩ => rfl

/-- The messages laid along every node. -/
def spread (t : FVec Ideal S160000x256 .f32) : FVec Ideal S10000x160000x256 .f32 :=
  broadcastInDim S10000x160000x256 ![0, 1, 2] bcast_S1x160000x256_S10000x160000x256_0_1_2 (broadcastInDim S1x160000x256 ![1, 2] bcast_S160000x256_S1x160000x256_1_2 t)

/-- At every node they are the messages. -/
theorem spread_apply (t : FVec Ideal S160000x256 .f32) (v : Fin 10000) (k : Fin 160000) (c : Fin 256) :
    spread t (ix3 v k c) = t (ix2 k c) := by
  unfold spread
  refine (broadcastInDim_apply _ _ _ _ (ix3 (0 : Fin 1) k c) fun a => ?_).trans ?_
  · match a with
    | ⟨0, _⟩ => rfl
    | ⟨1, _⟩ => rfl
    | ⟨2, _⟩ => rfl
  refine broadcastInDim_apply _ _ _ _ (ix2 k c) fun a => ?_
  match a with
  | ⟨0, _⟩ => rfl
  | ⟨1, _⟩ => rfl

/-- The maximum over the edges that end at a node, −∞ where there is none. -/
def aggOf (E : IVec S2x160000 32) (t : FVec Ideal S160000x256 .f32) : FVec Ideal S10000x256 .f32 :=
  Host.reduce FloatOps.maximumf (select (incoming E) (spread t) (broadcastInDim S10000x160000x256 ![] bcast_S_S10000x160000x256 (id (constant S_ .f32 0xFF800000#32)))) (constant S_ .f32 0xFF800000#32) reducesTo_S10000x160000x256_S10000x256_d1 h_S_

/-- The word of −∞ is −∞. -/
theorem word_bot : Ideal.ofBits .f32 0xFF800000#32 = ⊥ := by simp [Ideal.ofBits, Ideal.ieee]

/-- The word of +∞ is +∞. -/
theorem word_top : Ideal.ofBits .f32 0x7F800000#32 = ⊤ := by simp [Ideal.ofBits, Ideal.ieee]

/-- The maximum as a fold over the edges. -/
theorem aggOf_fold (E : IVec S2x160000 32) (t : FVec Ideal S160000x256 .f32) (v : Fin 10000) (c : Fin 256) :
    (aggOf E t (ix2 v c) : EReal) = (Finset.univ : Finset (Fin 160000)).fold max ⊥
      (fun k => if (E (ix2 (1 : Fin 2) k)) = BitVec.ofNat 32 v.val then t (ix2 k c) else ⊥) := by
  have hr : S10000x160000x256.Reduces [1] S10000x256 := by decide
  have key : ∀ k : Fin 160000, (if incoming E (ix3 v k c) = 1#1 then (spread t (ix3 v k c) : EReal) else ⊥)
      = if (E (ix2 (1 : Fin 2) k)) = BitVec.ofNat 32 v.val then t (ix2 k c) else ⊥ := fun k => by
    rw [incoming_apply, spread_apply]
    refine if_congr ?_ rfl rfl
    have ofBool_one : ∀ p : Bool, BitVec.ofBool p = 1#1 ↔ p = true := by decide
    exact (ofBool_one _).trans (by simp)
  have e := Host.reduce_eq_fold_single (max : EReal → EReal → EReal) (select (incoming E) (spread t) (broadcastInDim S10000x160000x256 ![] bcast_S_S10000x160000x256 (id (constant (F := Ideal) S_ .f32 0xFF800000#32)))) (constant (F := Ideal) S_ .f32 0xFF800000#32) reducesTo_S10000x160000x256_S10000x256_d1 hr h_S_ (ix2 v c)
  refine Eq.trans e ?_
  refine congrArg₂ (fun b f => (Finset.univ : Finset (Fin 160000)).fold max b f) word_bot (funext fun k => ?_)
  have hl : hr.lift (ix2 v c) k = ix3 v k c := by
    funext a
    match a with
    | ⟨0, _⟩ => rfl
    | ⟨1, _⟩ => rfl
    | ⟨2, _⟩ => rfl
  show (if incoming E (hr.lift (ix2 v c) k) = 1#1 then (spread t (hr.lift (ix2 v c) k) : EReal) else Ideal.ofBits .f32 0xFF800000#32) = _
  rw [hl, word_bot]
  exact key k

end Cert.ReferenceIdeal.Sage

end
-- ==== Proof.Agree.lean ====
/-
  Of messages that are finite and at least 0, the reference's aggregate with its infinities replaced by 0 is the kernel's.
-/
module

public import proofs.«01_k».proof.Proof.SegMax
public import proofs.«01_k».proof.Proof.RefAgg

@[expose] public section

noncomputable section

namespace Cert.ReferenceIdeal.Sage

open Cert.ReferenceIdeal Cert.ReferenceIdeal.Gen
open Idealize.ShloMosaic Idealize.ShloMosaic.ValueIdx Idealize.SL.Sem

/-- The aggregate where it is finite, 0 elsewhere. -/
def kept (a : FVec Ideal S10000x256 .f32) : FVec Ideal S10000x256 .f32 :=
  select (cmpf .olt (Host.absf a) (broadcastInDim S10000x256 ![] bcast_S_S10000x256 (constant S_ .f32 0x7F800000#32))) a (broadcastInDim S10000x256 ![] bcast_S_S10000x256 (id (constant S_ .f32 0x00000000#32)))

/-- What is kept at an index, by the comparison there. -/
theorem kept_apply (a : FVec Ideal S10000x256 .f32) (y : S10000x256.Idx) :
    (kept a y : EReal) = if max (a y : EReal) (-(a y : EReal)) < ⊤ then (a y : EReal) else 0 := by
  have ofBool_one : ∀ p : Bool, BitVec.ofBool p = 1#1 ↔ p = true := by decide
  show (if BitVec.ofBool (decide (max (a y : EReal) (-(a y : EReal)) < Ideal.ofBits .f32 0x7F800000#32)) = 1#1 then (a y : EReal) else Ideal.ofBits .f32 0x00000000#32) = _
  rw [word_top, Ideal.ofBits_zero_f32]
  exact if_congr ((ofBool_one _).trans decide_eq_true_iff) rfl rfl

/-- −∞ becomes 0. -/
theorem kept_of_bot (a : FVec Ideal S10000x256 .f32) (y : S10000x256.Idx) (h : (a y : EReal) = ⊥) : (kept a y : EReal) = 0 := by
  rw [kept_apply, h]; simp

/-- A finite aggregate is kept. -/
theorem kept_of_finite (a : FVec Ideal S10000x256 .f32) (y : S10000x256.Idx) (h0 : 0 ≤ (a y : EReal)) (h1 : (a y : EReal) < ⊤) :
    (kept a y : EReal) = a y := by
  rw [kept_apply, if_pos]
  refine max_lt h1 (lt_of_le_of_lt ?_ EReal.zero_lt_top)
  exact EReal.neg_le_zero.mpr h0

/-- The two aggregates agree. -/
theorem kept_aggOf (E : IVec S2x160000 32) (hE : ∀ y, (E y).toNat < 10000) (m : FVec Ideal S10000x256 .f32)
    (hm : ∀ y, 0 ≤ (m y : EReal) ∧ (m y : EReal) < ⊤) : kept (aggOf E (taken E m)) = Cert.KernelIdeal.Sage.segAcc (F := Ideal) E m 124 := by
  funext y
  obtain ⟨v, c, rfl⟩ : ∃ (v : Fin 10000) (c : Fin 256), y = ix2 v c := ⟨_, _, eq_ix2 y⟩
  -- the messages, the same on both sides
  have hrow : ∀ k : Fin 160000, Cert.KernelIdeal.Sage.rowOf (F := Ideal) m (E (Cert.KernelIdeal.Sage.edgesAt 0 k)) (ix2 v c) = taken E m (ix2 k c) := fun k => by
    have e : Cert.KernelIdeal.Sage.edgesAt 0 k = ix2 (0 : Fin 2) k := by
      funext a
      match a with
      | ⟨0, _⟩ => rfl
      | ⟨1, _⟩ => rfl
    rw [e, taken_apply E hE, Cert.KernelIdeal.Sage.rowOf, dif_pos (hE _)]
    refine congrArg m (funext fun a => ?_)
    match a with
    | ⟨0, _⟩ => rfl
    | ⟨1, _⟩ => rfl
  have hdst : ∀ k : Fin 160000, v.val = BitVec.toNat (w := 32) (E (Cert.KernelIdeal.Sage.edgesAt 1 k)) ↔ E (ix2 (1 : Fin 2) k) = BitVec.ofNat 32 v.val := fun k => by
    have e : Cert.KernelIdeal.Sage.edgesAt 1 k = ix2 (1 : Fin 2) k := by
      funext a
      match a with
      | ⟨0, _⟩ => rfl
      | ⟨1, _⟩ => rfl
    rw [e]
    have hv := v.isLt
    refine ⟨fun h => BitVec.eq_of_toNat_eq ?_, fun h => ?_⟩
    · rw [BitVec.toNat_ofNat, ← h]; omega
    · rw [h, BitVec.toNat_ofNat]; omega
  have hseg : ∀ z : EReal, (Cert.KernelIdeal.Sage.segAcc (F := Ideal) E m 124 (ix2 v c) : EReal) ≤ z
      ↔ 0 ≤ z ∧ ∀ k : Fin 160000, E (ix2 (1 : Fin 2) k) = BitVec.ofNat 32 v.val → (taken E m (ix2 k c) : EReal) ≤ z := fun z =>
    (Cert.KernelIdeal.Sage.segAcc_le E m (ix2 v c) z).trans (and_congr_right fun _ => forall_congr' fun k => by rw [hrow]; exact imp_congr_left (hdst k))
  have hle : ∀ z : EReal, (aggOf E (taken E m) (ix2 v c) : EReal) ≤ z
      ↔ ∀ k : Fin 160000, E (ix2 (1 : Fin 2) k) = BitVec.ofNat 32 v.val → (taken E m (ix2 k c) : EReal) ≤ z := fun z => by
    rw [aggOf_fold, Finset.fold_max_le]
    refine ⟨fun h k hk => by simpa [hk] using h.2 k (Finset.mem_univ k), fun h => ⟨bot_le, fun k _ => ?_⟩⟩
    split
    · exact h k ‹_›
    · exact bot_le
  have hlt : (aggOf E (taken E m) (ix2 v c) : EReal) < ⊤ := by
    rw [aggOf_fold, Finset.fold_max_lt]
    refine ⟨bot_lt_top, fun k _ => ?_⟩
    split
    · rw [taken_apply E hE]; exact (hm _).2
    · exact bot_lt_top
  by_cases hx : ∃ k : Fin 160000, E (ix2 (1 : Fin 2) k) = BitVec.ofNat 32 v.val
  · obtain ⟨k, hk⟩ := hx
    have h0 : 0 ≤ (taken E m (ix2 k c) : EReal) := by rw [taken_apply E hE]; exact (hm _).1
    have h1 := (hle _).1 le_rfl k hk
    refine (kept_of_finite _ _ (h0.trans h1) hlt).trans (eq_of_forall_ge_iff fun z => ?_)
    rw [hle, hseg]
    exact ⟨fun h => ⟨h0.trans (h k hk), h⟩, fun h => h.2⟩
  · have hn : ∀ k : Fin 160000, E (ix2 (1 : Fin 2) k) = BitVec.ofNat 32 v.val → False := fun k hk => hx ⟨k, hk⟩
    refine (kept_of_bot _ _ (le_bot_iff.mp ((hle ⊥).2 fun k hk => (hn k hk).elim))).trans (eq_of_forall_ge_iff fun z => ?_)
    rw [hseg]
    exact ⟨fun h => ⟨h, fun k hk => (hn k hk).elim⟩, fun h => h.1⟩

end Cert.ReferenceIdeal.Sage

end
-- ==== Proof.Layers.lean ====
/-
  One layer over the extended reals: the reference's and the kernel's.
-/
module

public import proofs.«01_k».proof.Proof.Agree
public import Idealize.ShloMosaic.Lib.KernelVsHost

@[expose] public section

noncomputable section

namespace Cert.ReferenceIdeal.Sage

open Cert.ReferenceIdeal Cert.ReferenceIdeal.Gen
open Idealize.ShloMosaic Idealize.ShloMosaic.ValueIdx Idealize.SL.Sem

/-- A bias of 256 entries laid along the nodes. -/
def rows (b : FVec Ideal S256 .f32) : FVec Ideal S10000x256 .f32 :=
  broadcastInDim S10000x256 ![0, 1] bcast_S1x256_S10000x256_0_1 (broadcastInDim S1x256 ![1] bcast_S256_S1x256_1 b)

/-- A bias of 128 entries laid along the nodes. -/
def rowsLast (b : FVec Ideal S128 .f32) : FVec Ideal S10000x128 .f32 :=
  broadcastInDim S10000x128 ![0, 1] bcast_S1x128_S10000x128_0_1 (broadcastInDim S1x128 ![1] bcast_S128_S1x128_1 b)

/-- The messages of the nodes: relu (h W + b). -/
def relu (h : FVec Ideal S10000x256 .f32) (W : FVec Ideal S256x256 .f32) (b : FVec Ideal S256 .f32) : FVec Ideal S10000x256 .f32 :=
  maximumf (addf (Host.dotGeneral dot_S10000x256_S256x256_S10000x256_1_0_0_1_n_n none h W) (rows b)) (broadcastInDim S10000x256 ![] bcast_S_S10000x256 (constant S_ .f32 0x00000000#32))

/-- The reference's aggregate of a layer. -/
def agg (E : IVec S2x160000 32) (h : FVec Ideal S10000x256 .f32) (W : FVec Ideal S256x256 .f32) (b : FVec Ideal S256 .f32) : FVec Ideal S10000x256 .f32 :=
  kept (aggOf E (taken E (relu h W b)))

/-- h Ws + a Wn + b. -/
def mix (h a : FVec Ideal S10000x256 .f32) (Ws Wn : FVec Ideal S256x256 .f32) (b : FVec Ideal S256 .f32) : FVec Ideal S10000x256 .f32 :=
  addf (addf (Host.dotGeneral dot_S10000x256_S256x256_S10000x256_1_0_0_1_n_n none h Ws) (Host.dotGeneral dot_S10000x256_S256x256_S10000x256_1_0_0_1_n_n none a Wn)) (rows b)

/-- tanh of twice h Ws + a Wn + b. -/
def comb (h a : FVec Ideal S10000x256 .f32) (Ws Wn : FVec Ideal S256x256 .f32) (b : FVec Ideal S256 .f32) : FVec Ideal S10000x256 .f32 :=
  Host.tanh (addf (mix h a Ws Wn b) (mix h a Ws Wn b))

/-- The last layer's h Ws + a Wn + b. -/
def mixLast (h a : FVec Ideal S10000x256 .f32) (Ws Wn : FVec Ideal S256x128 .f32) (b : FVec Ideal S128 .f32) : FVec Ideal S10000x128 .f32 :=
  addf (addf (Host.dotGeneral dot_S10000x256_S256x128_S10000x128_1_0_0_1_n_n none h Ws) (Host.dotGeneral dot_S10000x256_S256x128_S10000x128_1_0_0_1_n_n none a Wn)) (rowsLast b)

/-- A vector laid along rows: by the kernel's one-row cast and broadcast or by the host's two broadcasts. -/
theorem laid {n : ℕ} (b : FVec Ideal ⟨1, ![n]⟩ .f32) (h1 : (⟨1, ![n]⟩ : Shape).ShapeCasts ⟨2, ![1, n]⟩) (hb : (⟨2, ![1, n]⟩ : Shape).Broadcasts ⟨2, ![10000, n]⟩)
    (hd : (⟨1, ![n]⟩ : Shape).BroadcastsInDim ⟨2, ![1, n]⟩ ![1]) (hd' : (⟨2, ![1, n]⟩ : Shape).BroadcastsInDim ⟨2, ![10000, n]⟩ ![0, 1]) :
    broadcastTo ⟨2, ![10000, n]⟩ (shapeCast ⟨2, ![1, n]⟩ b h1) hb = broadcastInDim ⟨2, ![10000, n]⟩ ![0, 1] hd' (broadcastInDim ⟨2, ![1, n]⟩ ![1] hd b) := by
  funext y
  obtain ⟨v, c, rfl⟩ : ∃ (v : Fin 10000) (c : Fin n), y = ix2 v c := ⟨_, _, eq_ix2 y⟩
  rw [broadcastTo_1b_ab_apply, shapeCast_a_1a_apply, broadcastInDim_oneRow_apply]
  refine (broadcastInDim_apply _ _ _ _ (ix1 c) fun a => ?_).symm
  match a with
  | ⟨0, _⟩ =>
    show c.val = if n = 1 then 0 else c.val
    split
    · have := c.isLt; omega
    · rfl

/-- The kernel's dense layer is the reference's. -/
theorem k0_eq (h : FVec Ideal S10000x256 .f32) (W : FVec Ideal S256x256 .f32) (b : FVec Ideal S256 .f32) :
    Cert.KernelIdeal.Gen.k0_pay1 (F := Ideal) h W b = relu h W b := by
  unfold Cert.KernelIdeal.Gen.k0_pay1 relu rows
  refine congrArg₂ maximumf (congrArg₂ addf (matmul_zero_eq_dotGeneral _ none h W) (laid b _ _ _ _)) rfl

/-- The kernel's combination is the reference's. -/
theorem k2_eq (h a : FVec Ideal S10000x256 .f32) (Ws Wn : FVec Ideal S256x256 .f32) (b : FVec Ideal S256 .f32) :
    Cert.KernelIdeal.Gen.k2_pay1 (F := Ideal) h Ws a Wn b = comb h a Ws Wn b := by
  have e : addf (addf (matmul Cert.KernelIdeal.dot_S10000x256_S256x256_S10000x256_1_0_0_1_n_n none h Ws (constant S10000x256 .f32 0x00000000#32))
      (matmul Cert.KernelIdeal.dot_S10000x256_S256x256_S10000x256_1_0_0_1_n_n none (shapeCast S10000x256 a Cert.KernelIdeal.Facts₀.shapeCasts_S10000x256_S10000x256) Wn (constant S10000x256 .f32 0x00000000#32)))
      (broadcastTo S10000x256 (shapeCast S1x256 b Cert.KernelIdeal.Facts₀.shapeCasts_S256_S1x256) Cert.KernelIdeal.Facts₀.broadcasts_S1x256_S10000x256) = mix h a Ws Wn b := by
    rw [shapeCast_self]
    exact congrArg₂ addf (congrArg₂ addf (matmul_zero_eq_dotGeneral _ none h Ws) (matmul_zero_eq_dotGeneral _ none a Wn)) (laid b _ _ _ _)
  unfold Cert.KernelIdeal.Gen.k2_pay1 comb
  rw [← e]
  rfl

/-- The kernel's last combination is the reference's. -/
theorem k11_eq (h a : FVec Ideal S10000x256 .f32) (Ws Wn : FVec Ideal S256x128 .f32) (b : FVec Ideal S128 .f32) :
    Cert.KernelIdeal.Gen.k11_pay1 (F := Ideal) h Ws a Wn b = mixLast h a Ws Wn b := by
  unfold Cert.KernelIdeal.Gen.k11_pay1 mixLast rowsLast
  simp only [shapeCast_self]
  exact congrArg₂ addf (congrArg₂ addf (matmul_zero_eq_dotGeneral _ none h Ws) (matmul_zero_eq_dotGeneral _ none a Wn)) (laid b _ _ _ _)

/-- A finite sum of real numbers is real. -/
theorem real_sum {ι : Type} (s : Finset ι) (f : ι → EReal) (hf : ∀ i, ∃ r : ℝ, f i = r) : ∃ r : ℝ, ∑ i ∈ s, f i = r := by
  choose g hg using hf
  refine ⟨∑ i ∈ s, g i, ?_⟩
  rw [Finset.sum_congr rfl fun i _ => hg i]
  exact (map_sum (⟨⟨Real.toEReal, rfl⟩, EReal.coe_add⟩ : ℝ →+ EReal) g s).symm

/-- Of real features, weights and biases the messages are real and at least 0. -/
theorem relu_range (h : FVec Ideal S10000x256 .f32) (W : FVec Ideal S256x256 .f32) (b : FVec Ideal S256 .f32)
    (hh : ∀ y, ∃ r : ℝ, (h y : EReal) = r) (hW : ∀ y, ∃ r : ℝ, (W y : EReal) = r) (hb : ∀ y, ∃ r : ℝ, (b y : EReal) = r) (y : S10000x256.Idx) :
    0 ≤ (relu h W b y : EReal) ∧ (relu h W b y : EReal) < ⊤ := by
  have hd : ∃ r : ℝ, (Host.dotGeneral dot_S10000x256_S256x256_S10000x256_1_0_0_1_n_n none h W y : EReal) = r := by
    obtain ⟨r, hr⟩ := real_sum Finset.univ (fun k : dot_S10000x256_S256x256_S10000x256_1_0_0_1_n_n.contr.Idx =>
      (h (dot_S10000x256_S256x256_S10000x256_1_0_0_1_n_n.lhsIdx y k) * W (dot_S10000x256_S256x256_S10000x256_1_0_0_1_n_n.rhsIdx y k) : EReal)) fun k => by
        obtain ⟨p, hp⟩ := hh (dot_S10000x256_S256x256_S10000x256_1_0_0_1_n_n.lhsIdx y k)
        obtain ⟨q, hq⟩ := hW (dot_S10000x256_S256x256_S10000x256_1_0_0_1_n_n.rhsIdx y k)
        exact ⟨p * q, by rw [hp, hq, EReal.coe_mul]⟩
    exact ⟨r, (zero_add _).trans hr⟩
  obtain ⟨r, hr⟩ := hd
  obtain ⟨s, hs⟩ : ∃ s : ℝ, (rows b y : EReal) = s := hb _
  have e : (relu h W b y : EReal) = max ((r : EReal) + s) 0 := by
    show max ((Host.dotGeneral dot_S10000x256_S256x256_S10000x256_1_0_0_1_n_n none h W y : EReal) + (rows b y : EReal)) (Ideal.ofBits .f32 0x00000000#32) = _
    rw [hr, hs, Ideal.ofBits_zero_f32]
  rw [e]
  exact ⟨le_max_right _ _, max_lt (by rw [← EReal.coe_add]; exact EReal.coe_lt_top _) EReal.zero_lt_top⟩

/-- tanh of any extended real is real. -/
theorem tanh_real (x : EReal) : ∃ r : ℝ, Ideal.tanh x = r := by
  induction x with
  | bot => exact ⟨-1, by rw [Ideal.tanh_bot]; simp⟩
  | top => exact ⟨1, by rw [Ideal.tanh_top]; simp⟩
  | coe r => exact ⟨_, Ideal.tanh_coe r⟩

/-- The next layer's features are real. -/
theorem comb_real (h a : FVec Ideal S10000x256 .f32) (Ws Wn : FVec Ideal S256x256 .f32) (b : FVec Ideal S256 .f32) (y : S10000x256.Idx) :
    ∃ r : ℝ, (comb h a Ws Wn b y : EReal) = r := tanh_real _

/-- The kernel's walk over the edges from the kernel's messages is the reference's aggregate. -/
theorem seg_eq (E : IVec S2x160000 32) (hE : ∀ y, (E y).toNat < 10000) (h : FVec Ideal S10000x256 .f32) (W : FVec Ideal S256x256 .f32) (b : FVec Ideal S256 .f32)
    (hh : ∀ y, ∃ r : ℝ, (h y : EReal) = r) (hW : ∀ y, ∃ r : ℝ, (W y : EReal) = r) (hb : ∀ y, ∃ r : ℝ, (b y : EReal) = r) :
    Cert.KernelIdeal.Sage.segAcc (F := Ideal) E (Cert.KernelIdeal.Gen.k0_pay1 (F := Ideal) h W b) 124 = agg E h W b := by
  rw [k0_eq]
  exact (kept_aggOf E hE (relu h W b) (relu_range h W b hh hW hb)).symm

end Cert.ReferenceIdeal.Sage

end
-- ==== Proof.Value.lean ====
/-
  The whole network over the extended reals, and that both programs compute it.
-/
module

public import proofs.«01_k».proof.Proof.Layers
public import proofs.«01_k».proof.Proof.Run

@[expose] public section

noncomputable section

namespace Cert.ReferenceIdeal.Sage

open Cert.ReferenceIdeal Cert.ReferenceIdeal.Gen Cert.ReferenceIdeal.Value
open Idealize.ShloMosaic Idealize.ShloMosaic.TcCoe Idealize.SL.Sem

/-- One hidden layer: the features after it. -/
def layer (E : IVec S2x160000 32) (h : FVec Ideal S10000x256 .f32) (Wp : FVec Ideal S256x256 .f32) (bp : FVec Ideal S256 .f32)
    (Ws Wn : FVec Ideal S256x256 .f32) (b : FVec Ideal S256 .f32) : FVec Ideal S10000x256 .f32 :=
  comb h (agg E h Wp bp) Ws Wn b

/-- The four layers, the middle two with the same weights. -/
def net (x : FVec Ideal S10000x256 .f32) (E : IVec S2x160000 32) (Wp1 : FVec Ideal S256x256 .f32) (bp1 : FVec Ideal S256 .f32)
    (Ws1 Wn1 : FVec Ideal S256x256 .f32) (b1 : FVec Ideal S256 .f32) (Wp2 : FVec Ideal S256x256 .f32) (bp2 : FVec Ideal S256 .f32)
    (Ws2 Wn2 : FVec Ideal S256x256 .f32) (b2 : FVec Ideal S256 .f32) (Wp3 : FVec Ideal S256x256 .f32) (bp3 : FVec Ideal S256 .f32)
    (Ws3 Wn3 : FVec Ideal S256x128 .f32) (b3 : FVec Ideal S128 .f32) : FVec Ideal S10000x128 .f32 :=
  have h1 := layer E x Wp1 bp1 Ws1 Wn1 b1
  have h2 := layer E h1 Wp2 bp2 Ws2 Wn2 b2
  have h3 := layer E h2 Wp2 bp2 Ws2 Wn2 b2
  mixLast h3 (agg E h3 Wp3 bp3) Ws3 Wn3 b3

/-- The reference's features after the first layer. -/
theorem ref_h1 (V : Valuation τ sig (Elt Ideal)) :
    res_main_v31 V = layer (V (Proc.devRef .tc main_arg1)) (V (Proc.devRef .tc main_arg0)) (V (Proc.devRef .tc main_arg2)) (V (Proc.devRef .tc main_arg3)) (V (Proc.devRef .tc main_arg4)) (V (Proc.devRef .tc main_arg5)) (V (Proc.devRef .tc main_arg6)) := rfl

/-- After the second. -/
theorem ref_h2 (V : Valuation τ sig (Elt Ideal)) :
    res_main_v59 V = layer (V (Proc.devRef .tc main_arg1)) (res_main_v31 V) (V (Proc.devRef .tc main_arg7)) (V (Proc.devRef .tc main_arg8)) (V (Proc.devRef .tc main_arg9)) (V (Proc.devRef .tc main_arg10)) (V (Proc.devRef .tc main_arg11)) := rfl

/-- After the third. -/
theorem ref_h3 (V : Valuation τ sig (Elt Ideal)) :
    res_main_v87 V = layer (V (Proc.devRef .tc main_arg1)) (res_main_v59 V) (V (Proc.devRef .tc main_arg7)) (V (Proc.devRef .tc main_arg8)) (V (Proc.devRef .tc main_arg9)) (V (Proc.devRef .tc main_arg10)) (V (Proc.devRef .tc main_arg11)) := rfl

/-- The last layer's aggregate. -/
theorem ref_agg (V : Valuation τ sig (Elt Ideal)) :
    kept (res_main_v103 V) = agg (V (Proc.devRef .tc main_arg1)) (res_main_v87 V) (V (Proc.devRef .tc main_arg12)) (V (Proc.devRef .tc main_arg13)) := rfl

/-- The reference's result is the network of its arguments. -/
theorem ref_net (V : Valuation τ sig (Elt Ideal)) :
    mixLast (res_main_v87 V) (kept (res_main_v103 V)) (V (Proc.devRef .tc main_arg14)) (V (Proc.devRef .tc main_arg15)) (V (Proc.devRef .tc main_arg16))
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [ref_agg, ref_h3, ref_h2, ref_h1]
  rfl

end Cert.ReferenceIdeal.Sage

namespace Cert.KernelIdeal.Sage

open Cert.KernelIdeal Cert.KernelIdeal.Gen
open Idealize.ShloMosaic Idealize.ShloMosaic.TcCoe Idealize.SL.Sem
open Cert.ReferenceIdeal.Sage (layer net comb agg mixLast seg_eq k2_eq k11_eq comb_real)

/-- The kernel's three calls of a hidden layer are the layer. -/
theorem layer_eq (E : IVec S2x160000 32) (hE : ∀ y, (E y).toNat < 10000) (h : FVec Ideal S10000x256 .f32) (Wp : FVec Ideal S256x256 .f32) (bp : FVec Ideal S256 .f32)
    (Ws Wn : FVec Ideal S256x256 .f32) (b : FVec Ideal S256 .f32)
    (hh : ∀ y, ∃ r : ℝ, (h y : EReal) = r) (hW : ∀ y, ∃ r : ℝ, (Wp y : EReal) = r) (hb : ∀ y, ∃ r : ℝ, (bp y : EReal) = r) :
    k2_pay1 (F := Ideal) h Ws (segAcc (F := Ideal) E (k0_pay1 (F := Ideal) h Wp bp) 124) Wn b = layer E h Wp bp Ws Wn b := by
  rw [seg_eq E hE h Wp bp hh hW hb]
  exact k2_eq h (agg E h Wp bp) Ws Wn b

/-- The kernel's three calls of the last layer are the reference's last layer. -/
theorem last_eq (E : IVec S2x160000 32) (hE : ∀ y, (E y).toNat < 10000) (h : FVec Ideal S10000x256 .f32) (Wp : FVec Ideal S256x256 .f32) (bp : FVec Ideal S256 .f32)
    (Ws Wn : FVec Ideal S256x128 .f32) (b : FVec Ideal S128 .f32)
    (hh : ∀ y, ∃ r : ℝ, (h y : EReal) = r) (hW : ∀ y, ∃ r : ℝ, (Wp y : EReal) = r) (hb : ∀ y, ∃ r : ℝ, (bp y : EReal) = r) :
    k11_pay1 (F := Ideal) h Ws (segAcc (F := Ideal) E (k0_pay1 (F := Ideal) h Wp bp) 124) Wn b = mixLast h (agg E h Wp bp) Ws Wn b := by
  rw [seg_eq E hE h Wp bp hh hW hb]
  exact k11_eq h (agg E h Wp bp) Ws Wn b

/-- Every element is a real number. -/
def IsReal {s : Shape} (x : FVec Ideal s .f32) : Prop := ∀ y, ∃ r : ℝ, (x y : EReal) = r

variable (m : (ℓ : Loc nD τ sig) → Buf (Elt Ideal) ℓ) (c : Dev nD)

/-- The first layer leaves the other buffers alone. -/
theorem held1 (b : Ref sig .tc) (h : b ∉ [main_v0, main_v1, main_v2]) : S3 m c b = S0 m c b := by
  simp only [List.mem_cons, List.not_mem_nil, or_false, not_or] at h
  exact (S3_of m c b h.2.2).trans ((S2_of m c b h.2.1).trans (S1_of m c b h.1))

/-- The second layer leaves the other buffers alone. -/
theorem held2 (b : Ref sig .tc) (h : b ∉ [main_v3, main_v4, main_v5]) : S6 m c b = S3 m c b := by
  simp only [List.mem_cons, List.not_mem_nil, or_false, not_or] at h
  exact (S6_of m c b h.2.2).trans ((S5_of m c b h.2.1).trans (S4_of m c b h.1))

/-- The third layer leaves the other buffers alone. -/
theorem held3 (b : Ref sig .tc) (h : b ∉ [main_v6, main_v7, main_v8]) : S9 m c b = S6 m c b := by
  simp only [List.mem_cons, List.not_mem_nil, or_false, not_or] at h
  exact (S9_of m c b h.2.2).trans ((S8_of m c b h.2.1).trans (S7_of m c b h.1))

/-- After three calls the features' buffer holds the first layer's three calls of the arguments. -/
theorem calls_h1 : S3 m c main_v2 = k2_pay1 (F := Ideal) (S0 m c main_arg0) (S0 m c main_arg4) (segAcc (F := Ideal) (S0 m c main_arg1) (k0_pay1 (F := Ideal) (S0 m c main_arg0) (S0 m c main_arg2) (S0 m c main_arg3)) 124) (S0 m c main_arg5) (S0 m c main_arg6) := by
  rw [S3_self, S2_self, S1_self, S2_of m c main_arg0 (by decide), S1_of m c main_arg0 (by decide), S2_of m c main_arg4 (by decide), S1_of m c main_arg4 (by decide), S2_of m c main_arg5 (by decide), S1_of m c main_arg5 (by decide), S2_of m c main_arg6 (by decide), S1_of m c main_arg6 (by decide), S1_of m c main_arg1 (by decide)]

/-- After six, the second's. -/
theorem calls_h2 : S6 m c main_v5 = k2_pay1 (F := Ideal) (S3 m c main_v2) (S0 m c main_arg9) (segAcc (F := Ideal) (S0 m c main_arg1) (k0_pay1 (F := Ideal) (S3 m c main_v2) (S0 m c main_arg7) (S0 m c main_arg8)) 124) (S0 m c main_arg10) (S0 m c main_arg11) := by
  rw [S6_self, S5_self, S4_self, S5_of m c main_v2 (by decide), S4_of m c main_v2 (by decide), S5_of m c main_arg9 (by decide), S4_of m c main_arg9 (by decide), S5_of m c main_arg10 (by decide), S4_of m c main_arg10 (by decide), S5_of m c main_arg11 (by decide), S4_of m c main_arg11 (by decide), S4_of m c main_arg1 (by decide), held1 m c main_arg9 (by decide), held1 m c main_arg10 (by decide), held1 m c main_arg11 (by decide), held1 m c main_arg1 (by decide), held1 m c main_arg7 (by decide), held1 m c main_arg8 (by decide)]

/-- After nine, the third's. -/
theorem calls_h3 : S9 m c main_v8 = k2_pay1 (F := Ideal) (S6 m c main_v5) (S0 m c main_arg9) (segAcc (F := Ideal) (S0 m c main_arg1) (k0_pay1 (F := Ideal) (S6 m c main_v5) (S0 m c main_arg7) (S0 m c main_arg8)) 124) (S0 m c main_arg10) (S0 m c main_arg11) := by
  rw [S9_self, S8_self, S7_self, S8_of m c main_v5 (by decide), S7_of m c main_v5 (by decide), S8_of m c main_arg9 (by decide), S7_of m c main_arg9 (by decide), S8_of m c main_arg10 (by decide), S7_of m c main_arg10 (by decide), S8_of m c main_arg11 (by decide), S7_of m c main_arg11 (by decide), S7_of m c main_arg1 (by decide), held2 m c main_arg9 (by decide), held1 m c main_arg9 (by decide), held2 m c main_arg10 (by decide), held1 m c main_arg10 (by decide), held2 m c main_arg11 (by decide), held1 m c main_arg11 (by decide), held2 m c main_arg1 (by decide), held1 m c main_arg1 (by decide), held2 m c main_arg7 (by decide), held1 m c main_arg7 (by decide), held2 m c main_arg8 (by decide), held1 m c main_arg8 (by decide)]

/-- At the end the result's buffer holds the last layer's. -/
theorem calls_out : S12 m c main_v11 = k11_pay1 (F := Ideal) (S9 m c main_v8) (S0 m c main_arg14) (segAcc (F := Ideal) (S0 m c main_arg1) (k0_pay1 (F := Ideal) (S9 m c main_v8) (S0 m c main_arg12) (S0 m c main_arg13)) 124) (S0 m c main_arg15) (S0 m c main_arg16) := by
  rw [S12_self, S11_self, S10_self, S11_of m c main_v8 (by decide), S10_of m c main_v8 (by decide), S11_of m c main_arg14 (by decide), S10_of m c main_arg14 (by decide), S11_of m c main_arg15 (by decide), S10_of m c main_arg15 (by decide), S11_of m c main_arg16 (by decide), S10_of m c main_arg16 (by decide), S10_of m c main_arg1 (by decide), held3 m c main_arg14 (by decide), held2 m c main_arg14 (by decide), held1 m c main_arg14 (by decide), held3 m c main_arg15 (by decide), held2 m c main_arg15 (by decide), held1 m c main_arg15 (by decide), held3 m c main_arg16 (by decide), held2 m c main_arg16 (by decide), held1 m c main_arg16 (by decide), held3 m c main_arg1 (by decide), held2 m c main_arg1 (by decide), held1 m c main_arg1 (by decide), held3 m c main_arg12 (by decide), held2 m c main_arg12 (by decide), held1 m c main_arg12 (by decide), held3 m c main_arg13 (by decide), held2 m c main_arg13 (by decide), held1 m c main_arg13 (by decide)]

/-- The kernel's result is the network of its arguments, of edges within range and finite features, message weights and biases. -/
theorem kernel_net (hE : ∀ y, BitVec.toNat (w := 32) (S0 m c main_arg1 y) < 10000)
    (h0 : IsReal (s := S10000x256) (S0 m c main_arg0)) (h2 : IsReal (s := S256x256) (S0 m c main_arg2)) (h3 : IsReal (s := S256) (S0 m c main_arg3))
    (h7 : IsReal (s := S256x256) (S0 m c main_arg7)) (h8 : IsReal (s := S256) (S0 m c main_arg8))
    (h12 : IsReal (s := S256x256) (S0 m c main_arg12)) (h13 : IsReal (s := S256) (S0 m c main_arg13)) :
    S12 m c main_v11 = net (S0 m c main_arg0) (S0 m c main_arg1) (S0 m c main_arg2) (S0 m c main_arg3) (S0 m c main_arg4) (S0 m c main_arg5) (S0 m c main_arg6) (S0 m c main_arg7) (S0 m c main_arg8) (S0 m c main_arg9) (S0 m c main_arg10) (S0 m c main_arg11) (S0 m c main_arg12) (S0 m c main_arg13) (S0 m c main_arg14) (S0 m c main_arg15) (S0 m c main_arg16) := by
  have e1 := (calls_h1 m c).trans (layer_eq _ hE _ _ _ _ _ _ h0 h2 h3)
  have r1 : IsReal (s := S10000x256) (S3 m c main_v2) := by rw [e1]; exact comb_real _ _ _ _ _
  have e2 := (calls_h2 m c).trans (layer_eq _ hE _ _ _ _ _ _ r1 h7 h8)
  have r2 : IsReal (s := S10000x256) (S6 m c main_v5) := by rw [e2]; exact comb_real _ _ _ _ _
  have e3 := (calls_h3 m c).trans (layer_eq _ hE _ _ _ _ _ _ r2 h7 h8)
  have r3 : IsReal (s := S10000x256) (S9 m c main_v8) := by rw [e3]; exact comb_real _ _ _ _ _
  refine (calls_out m c).trans ((last_eq _ hE _ _ _ _ _ _ r3 h12 h13).trans ?_)
  rw [e3, e2, e1]
  rfl

end Cert.KernelIdeal.Sage

end
-- ==== Proof.lean ====
/-
  The certificate: the frames of the kernel, of the ideal kernel and of the reference,
  and that the ideal kernel and the reference compute the same array.
-/
module

public import proofs.«01_k».proof.Defs
public import proofs.«01_k».proof.Proof.Frames
public import proofs.«01_k».proof.Proof.Pre
public import proofs.«01_k».proof.Proof.Value
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts Cert.Pre_valid_edges.Gen.facts
  Cert.Pre_valid_graph.Gen.facts

/-- The kernel ends on valid edges, its arguments unchanged and every counter at zero. -/
theorem kernel_quiescent : Cert.quiescent_Kernel := fun m g hp =>
  Cert.KernelIdeal.Sage.kernel_frame Bits m g fun c => Cert.KernelIdeal.Sage.edges_of_all _ _ _ _ _ _ _ _ _ _ _ _ _ _ _ _ _ (hp c)

/-- The ideal kernel ends on valid edges, its arguments unchanged and every counter at zero. -/
theorem ideal_quiescent : Cert.quiescent_KernelIdeal := fun m g hp =>
  Cert.KernelIdeal.Sage.ideal_frame Ideal m g fun c => Cert.KernelIdeal.Sage.edges_of_all _ _ _ _ _ _ _ _ _ _ _ _ _ _ _ _ _ (hp c)

/-- The same under the second precondition. -/
theorem ideal_quiescent_graph : Cert.quiescent_KernelIdeal_pre_valid_graph := fun m g hp =>
  Cert.KernelIdeal.Sage.ideal_frame Ideal m g fun c => (Cert.KernelIdeal.Sage.graph_of_all _ _ _ _ _ _ _ _ _ _ _ _ _ _ _ _ _ (hp c)).1

/-- The reference ends, its arguments unchanged and every counter at zero. -/
theorem reference_quiescent : Cert.quiescent_ReferenceIdeal := fun m g _ =>
  (θ_run _ _ _).mono (fun r h => ⟨fun c => (h c).2, Idealize.ShloMosaic.sem_eq_zero_of_no_sems (by decide) r.2⟩) (Cert.ReferenceIdeal.Value.run m g)

/-- The same under the second precondition. -/
theorem reference_quiescent_graph : Cert.quiescent_ReferenceIdeal_pre_valid_graph := fun m g _ =>
  (θ_run _ _ _).mono (fun r h => ⟨fun c => (h c).2, Idealize.ShloMosaic.sem_eq_zero_of_no_sems (by decide) r.2⟩) (Cert.ReferenceIdeal.Value.run m g)

/-- A finite array is an array of real numbers. -/
theorem real_of_finite {s : Shape} (x : FVec Ideal s .f32) (h : ∀ y, Cert.KernelIdeal.Sage.Fin' (x y)) : Cert.KernelIdeal.Sage.IsReal x :=
  fun y => ⟨EReal.toReal (x y), (EReal.coe_toReal (h y).2 (h y).1).symm⟩

/-- From equal arguments under the second precondition the ideal kernel and the reference leave the same result. -/
theorem same_value : Cert.algebraic_KernelIdeal_ReferenceIdeal_pre_valid_graph := fun m g m' g' hp heq => by
  have hg := fun c => Cert.KernelIdeal.Sage.graph_of_all _ _ _ _ _ _ _ _ _ _ _ _ _ _ _ _ _ (hp c)
  refine ⟨fun c => Cert.KernelIdeal.Sage.S12 m c (Proc.devRef .tc Cert.KernelIdeal.main_v11), ?_, ?_⟩
  · exact (θ_run _ _ _).mono (fun r h c => ⟨h.1 c _ (Cert.KernelIdeal.Sage.mem_uc Cert.KernelIdeal.main_v11 (by decide)),
      Cert.KernelIdeal.Sage.args_kept m c r.2.mem (h.1 c)⟩) (Cert.KernelIdeal.Sage.run m (fun c => (hg c).1) g)
  · refine (θ_run _ _ _).mono (fun r h c => ⟨(h c).1.trans ((Cert.ReferenceIdeal.Sage.ref_net _).trans ?_), (h c).2⟩) (Cert.ReferenceIdeal.Value.run m' g')
    obtain ⟨e0, e1, e2, e3, e4, e5, e6, e7, e8, e9, e10, e11, e12, e13, e14, e15, e16⟩ := heq c
    obtain ⟨hE, h0, h2, h3, h7, h8, h12, h13⟩ := hg c
    refine Eq.trans ?_ (Cert.KernelIdeal.Sage.kernel_net m c hE (real_of_finite _ h0) (real_of_finite _ h2) (real_of_finite _ h3) (real_of_finite _ h7)
      (real_of_finite _ h8) (real_of_finite _ h12) (real_of_finite _ h13)).symm
    show Cert.ReferenceIdeal.Sage.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [e0, e1, e2, e3, e4, e5, e6, e7, e8, e9, e10, e11, e12, e13, e14, e15, e16]
    rfl

theorem claim : Cert.Claim :=
  ⟨Cert.Kernel.Gen.facts, Cert.KernelIdeal.Gen.facts, Cert.ReferenceIdeal.Gen.facts, Cert.Pre_valid_edges.Gen.facts, Cert.Pre_valid_graph.Gen.facts,
    kernel_quiescent, ideal_quiescent, ideal_quiescent_graph, reference_quiescent, reference_quiescent_graph, trivial, same_value⟩

end Cert.Proof

end
